-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "steep_neg" .f32 0xC138AA3B#32 ((-(8 * (Real.log 2)⁻¹) : ℝ) : EReal)
  ∧ IdealRules.named_const.Statement Cert.KernelIdeal.κ "steep" .f32 0x4138AA3B#32 ((8 * (Real.log 2)⁻¹ : ℝ) : EReal)

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S1x3x512x512 : Shape := ⟨4, ![1, 3, 512, 512]⟩
abbrev S1x1x512x512 : Shape := ⟨4, ![1, 1, 512, 512]⟩
abbrev S_ : Shape := ⟨0, ![]⟩

class Facts : Prop where
  bcast_S_S1x1x512x512 : S_.BroadcastsInDim S1x1x512x512 (![] : Fin 0 → Fin S1x1x512x512.rank)
  reducesTo_S1x1x512x512_S_d0_1_2_3 : S1x1x512x512.ReducesTo [0, 1, 2, 3] S_
  h_S_ : 0 < S_.numel

variable [Facts]

def fn {F : FTy → Type} [FloatOps F] (main_arg0 : FVec F S1x3x512x512 .f32) (main_arg1 : FVec F S1x1x512x512 .f32) : IVec S_ 1 :=
  let main_cst : FVec F S_ .f32 := constant S_ .f32 0x00000000#32
  let main_v0 : FVec F S1x1x512x512 .f32 := broadcastInDim S1x1x512x512 ![] bcast_S_S1x1x512x512 main_cst
  let main_v1 : IVec S1x1x512x512 1 := cmpf .oge main_arg1 main_v0
  let main_cst_0 : FVec F S_ .f32 := constant S_ .f32 0x4EFFFFFF#32
  let main_v2 : FVec F S1x1x512x512 .f32 := broadcastInDim S1x1x512x512 ![] bcast_S_S1x1x512x512 main_cst_0
  let main_v3 : IVec S1x1x512x512 1 := cmpf .ole main_arg1 main_v2
  let main_v4 : IVec S1x1x512x512 1 := andi main_v1 main_v3
  let main_c : IVec S_ 1 := constantI S_ 1 1#1
  let main_v5 : IVec S_ 1 := (fun x v => Host.reduce IntOp.andi x v reducesTo_S1x1x512x512_S_d0_1_2_3 h_S_) main_v4 main_c
  main_v5
-- ==== Kernel.lean ====
abbrev S1x3x512x512 : Shape := ⟨4, ![1, 3, 512, 512]⟩
abbrev S1x1x512x512 : Shape := ⟨4, ![1, 1, 512, 512]⟩
abbrev S512x512 : Shape := ⟨2, ![512, 512]⟩
abbrev S3x512x512 : Shape := ⟨3, ![3, 512, 512]⟩
abbrev S_ : Shape := ⟨0, ![]⟩
abbrev S528x528 : Shape := ⟨2, ![528, 528]⟩
abbrev S3x528x528 : Shape := ⟨3, ![3, 528, 528]⟩
abbrev S64x512 : Shape := ⟨2, ![64, 512]⟩
abbrev S3x64x512 : Shape := ⟨3, ![3, 64, 512]⟩
abbrev S80x528 : Shape := ⟨2, ![80, 528]⟩
abbrev S64x528 : Shape := ⟨2, ![64, 528]⟩
abbrev S1x80x528 : Shape := ⟨3, ![1, 80, 528]⟩
abbrev S1x64x512 : Shape := ⟨3, ![1, 64, 512]⟩

abbrev nBuf : Space → Nat
  | .hbm => 12
  | .vmem => 11
  | .smem => 0
  | _ => 0

abbrev bufTy : (tb : Table) → Fin (tcTables nBuf tb) → BufTy
  | .hbm, ⟨0, _⟩ => ⟨S1x3x512x512, .f32⟩
  | .hbm, ⟨1, _⟩ => ⟨S1x1x512x512, .f32⟩
  | .hbm, ⟨2, _⟩ => ⟨S512x512, .f32⟩
  | .hbm, ⟨3, _⟩ => ⟨S3x512x512, .f32⟩
  | .hbm, ⟨4, _⟩ => ⟨S_, .f32⟩
  | .hbm, ⟨5, _⟩ => ⟨S_, .f32⟩
  | .hbm, ⟨6, _⟩ => ⟨S528x528, .f32⟩
  | .hbm, ⟨7, _⟩ => ⟨S_, .i32⟩
  | .hbm, ⟨8, _⟩ => ⟨S_, .f32⟩
  | .hbm, ⟨9, _⟩ => ⟨S3x528x528, .f32⟩
  | .hbm, ⟨10, _⟩ => ⟨S3x512x512, .f32⟩
  | .hbm, ⟨11, _⟩ => ⟨S512x512, .i32⟩
  | .local _ .vmem, ⟨0, _⟩ => ⟨S528x528, .f32⟩
  | .local _ .vmem, ⟨1, _⟩ => ⟨S3x528x528, .f32⟩
  | .local _ .vmem, ⟨2, _⟩ => ⟨S64x512, .f32⟩
  | .local _ .vmem, ⟨3, _⟩ => ⟨S64x512, .f32⟩
  | .local _ .vmem, ⟨4, _⟩ => ⟨S3x64x512, .f32⟩
  | .local _ .vmem, ⟨5, _⟩ => ⟨S3x64x512, .f32⟩
  | .local _ .vmem, ⟨6, _⟩ => ⟨S64x512, .i32⟩
  | .local _ .vmem, ⟨7, _⟩ => ⟨S64x512, .i32⟩
  | .local _ .vmem, ⟨8, _⟩ => ⟨S3x64x512, .f32⟩
  | .local _ .vmem, ⟨9, _⟩ => ⟨S64x512, .f32⟩
  | .local _ .vmem, ⟨10, _⟩ => ⟨S64x512, .f32⟩
  | _, _ => ⟨S1x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 17], ![false, false]⟩

def k0_off1 (i : grid0.Coords) : Fin 2 → Nat :=
  let arg0 : BitVec 32 := BitVec.ofNat 32 (i 0).val
  let c64_i32 : BitVec 32 := 64#32
  let v3 : BitVec 32 := Scalar.muli arg0 c64_i32
  let v4 : Index := Scalar.indexCast v3
  let c0 : Index := 0#32
  ![v4.toNat, 0]
def k0_off2 (i : grid0.Coords) : Fin 3 → Nat :=
  let c0_1 : Index := 0#32
  let arg0 : BitVec 32 := BitVec.ofNat 32 (i 0).val
  let c64_i32 : BitVec 32 := 64#32
  let v3 : BitVec 32 := Scalar.muli arg0 c64_i32
  let v10 : Index := Scalar.indexCast v3
  let c0_2 : Index := 0#32
  ![0, v10.toNat, 0]
def k0_off3 (i : grid0.Coords) : Fin 3 → Nat :=
  let c1 : Index := 1#32
  let arg0 : BitVec 32 := BitVec.ofNat 32 (i 0).val
  let c64_i32 : BitVec 32 := 64#32
  let v3 : BitVec 32 := Scalar.muli arg0 c64_i32
  let v16 : Index := Scalar.indexCast v3
  let c0_4 : Index := 0#32
  ![1, v16.toNat, 0]
def k0_off4 (i : grid0.Coords) : Fin 3 → Nat :=
  let c2 : Index := 2#32
  let arg0 : BitVec 32 := BitVec.ofNat 32 (i 0).val
  let c64_i32 : BitVec 32 := 64#32
  let v3 : BitVec 32 := Scalar.muli arg0 c64_i32
  let v22 : Index := Scalar.indexCast v3
  let c0_6 : Index := 0#32
  ![2, v22.toNat, 0]
def k0_cond2 (i : grid0.Coords) : BitVec 1 :=
  let arg1 : BitVec 32 := BitVec.ofNat 32 (i 1).val
  let c16_i32 : BitVec 32 := 16#32
  let v514 : BitVec 1 := Scalar.cmpi .eq arg1 c16_i32
  let v515 : BitVec 32 := Scalar.extui v514
  let c0_i32_75 : BitVec 32 := 0#32
  let v516 : BitVec 1 := Scalar.cmpi .ne v515 c0_i32_75
  v516

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S528x528 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x528x528 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "steep" => some ((8 * (Real.log 2)⁻¹ : ℝ) : EReal)
  | "steep_neg" => some ((-(8 * (Real.log 2)⁻¹) : ℝ) : EReal)
  | _ => none
-- ==== ReferenceIdeal.lean ====
abbrev S1x3x512x512 : Shape := ⟨4, ![1, 3, 512, 512]⟩
abbrev S1x1x512x512 : Shape := ⟨4, ![1, 1, 512, 512]⟩
abbrev S512x512 : Shape := ⟨2, ![512, 512]⟩
abbrev S17x17x512x512 : Shape := ⟨4, ![17, 17, 512, 512]⟩
abbrev S_ : Shape := ⟨0, ![]⟩
abbrev S75759616 : Shape := ⟨1, ![75759616]⟩
abbrev S262144 : Shape := ⟨1, ![262144]⟩
abbrev S75759616x1 : Shape := ⟨2, ![75759616, 1]⟩
abbrev S1x262144 : Shape := ⟨2, ![1, 262144]⟩
abbrev S3x262144 : Shape := ⟨2, ![3, 262144]⟩
abbrev S3x512x512 : Shape := ⟨3, ![3, 512, 512]⟩
abbrev S1x512x512 : Shape := ⟨3, ![1, 512, 512]⟩

abbrev nBuf : Space → Nat
  | .hbm => 185
  | .vmem => 0
  | .smem => 0
  | _ => 0

abbrev hbmTy0_0 (i : Nat) : BufTy := match i % 128 with
  | 0 => ⟨S1x3x512x512, .f32⟩
  | 1 => ⟨S1x1x512x512, .f32⟩
  | 2 => ⟨S512x512, .f32⟩
  | 3 => ⟨S512x512, .f32⟩
  | 4 => ⟨S512x512, .i32⟩
  | 5 => ⟨S17x17x512x512, .i32⟩
  | 6 => ⟨S_, .i32⟩
  | 7 => ⟨S17x17x512x512, .i32⟩
  | 8 => ⟨S17x17x512x512, .i32⟩
  | 9 => ⟨S17x17x512x512, .i32⟩
  | 10 => ⟨S_, .i32⟩
  | 11 => ⟨S17x17x512x512, .i32⟩
  | 12 => ⟨S17x17x512x512, .i32⟩
  | 13 => ⟨S512x512, .f32⟩
  | 14 => ⟨S512x512, .i32⟩
  | 15 => ⟨S17x17x512x512, .i32⟩
  | 16 => ⟨S_, .i32⟩
  | 17 => ⟨S512x512, .i32⟩
  | 18 => ⟨S512x512, .i32⟩
  | 19 => ⟨S1x1x512x512, .i32⟩
  | 20 => ⟨S17x17x512x512, .i32⟩
  | 21 => ⟨S17x17x512x512, .i1⟩
  | 22 => ⟨S17x17x512x512, .i32⟩
  | 23 => ⟨S_, .i32⟩
  | 24 => ⟨S512x512, .i32⟩
  | 25 => ⟨S512x512, .i32⟩
  | 26 => ⟨S1x1x512x512, .i32⟩
  | 27 => ⟨S17x17x512x512, .i32⟩
  | 28 => ⟨S17x17x512x512, .i1⟩
  | 29 => ⟨S17x17x512x512, .i1⟩
  | 30 => ⟨S17x17x512x512, .i32⟩
  | 31 => ⟨S17x17x512x512, .i32⟩
  | 32 => ⟨S17x17x512x512, .i32⟩
  | 33 => ⟨S17x17x512x512, .i32⟩
  | 34 => ⟨S_, .i32⟩
  | 35 => ⟨S17x17x512x512, .i32⟩
  | 36 => ⟨S17x17x512x512, .i1⟩
  | 37 => ⟨S_, .i32⟩
  | 38 => ⟨S17x17x512x512, .i32⟩
  | 39 => ⟨S17x17x512x512, .i1⟩
  | 40 => ⟨S17x17x512x512, .i1⟩
  | 41 => ⟨S_, .i32⟩
  | 42 => ⟨S17x17x512x512, .i32⟩
  | 43 => ⟨S17x17x512x512, .i1⟩
  | 44 => ⟨S17x17x512x512, .i1⟩
  | 45 => ⟨S_, .i32⟩
  | 46 => ⟨S17x17x512x512, .i32⟩
  | 47 => ⟨S17x17x512x512, .i1⟩
  | 48 => ⟨S17x17x512x512, .i1⟩
  | 49 => ⟨S17x17x512x512, .i32⟩
  | 50 => ⟨S17x17x512x512, .f32⟩
  | 51 => ⟨S17x17x512x512, .i32⟩
  | 52 => ⟨S17x17x512x512, .f32⟩
  | 53 => ⟨S17x17x512x512, .f32⟩
  | 54 => ⟨S17x17x512x512, .f32⟩
  | 55 => ⟨S1x1x512x512, .f32⟩
  | 56 => ⟨S17x17x512x512, .f32⟩
  | 57 => ⟨S17x17x512x512, .f32⟩
  | 58 => ⟨S_, .f32⟩
  | 59 => ⟨S17x17x512x512, .f32⟩
  | 60 => ⟨S17x17x512x512, .f32⟩
  | 61 => ⟨S17x17x512x512, .f32⟩
  | 62 => ⟨S_, .f32⟩
  | 63 => ⟨S17x17x512x512, .f32⟩
  | 64 => ⟨S17x17x512x512, .f32⟩
  | 65 => ⟨S_, .f32⟩
  | 66 => ⟨S17x17x512x512, .f32⟩
  | 67 => ⟨S17x17x512x512, .f32⟩
  | 68 => ⟨S512x512, .f32⟩
  | 69 => ⟨S_, .f32⟩
  | 70 => ⟨S512x512, .f32⟩
  | 71 => ⟨S512x512, .f32⟩
  | 72 => ⟨S1x1x512x512, .f32⟩
  | 73 => ⟨S17x17x512x512, .f32⟩
  | 74 => ⟨S17x17x512x512, .f32⟩
  | 75 => ⟨S_, .f32⟩
  | 76 => ⟨S_, .f32⟩
  | 77 => ⟨S17x17x512x512, .f32⟩
  | 78 => ⟨S17x17x512x512, .f32⟩
  | 79 => ⟨S_, .i32⟩
  | 80 => ⟨S17x17x512x512, .i32⟩
  | 81 => ⟨S17x17x512x512, .i32⟩
  | 82 => ⟨S17x17x512x512, .i32⟩
  | 83 => ⟨S_, .i32⟩
  | 84 => ⟨S_, .i32⟩
  | 85 => ⟨S17x17x512x512, .i32⟩
  | 86 => ⟨S17x17x512x512, .i32⟩
  | 87 => ⟨S75759616, .i32⟩
  | 88 => ⟨S_, .f32⟩
  | 89 => ⟨S262144, .f32⟩
  | 90 => ⟨S75759616, .f32⟩
  | 91 => ⟨S_, .i32⟩
  | 92 => ⟨S75759616, .i32⟩
  | 93 => ⟨S75759616, .i1⟩
  | 94 => ⟨S_, .i32⟩
  | 95 => ⟨S75759616, .i32⟩
  | 96 => ⟨S75759616, .i32⟩
  | 97 => ⟨S75759616, .i32⟩
  | 98 => ⟨S75759616x1, .i32⟩
  | 99 => ⟨S262144, .f32⟩
  | 100 => ⟨S_, .f32⟩
  | 101 => ⟨S262144, .f32⟩
  | 102 => ⟨S1x1x512x512, .f32⟩
  | 103 => ⟨S512x512, .f32⟩
  | 104 => ⟨S1x1x512x512, .f32⟩
  | 105 => ⟨S17x17x512x512, .f32⟩
  | 106 => ⟨S17x17x512x512, .f32⟩
  | 107 => ⟨S75759616, .f32⟩
  | 108 => ⟨S_, .i32⟩
  | 109 => ⟨S75759616, .i32⟩
  | 110 => ⟨S75759616, .i1⟩
  | 111 => ⟨S_, .i32⟩
  | 112 => ⟨S75759616, .i32⟩
  | 113 => ⟨S75759616, .i32⟩
  | 114 => ⟨S75759616, .i32⟩
  | 115 => ⟨S75759616x1, .i32⟩
  | 116 => ⟨S262144, .f32⟩
  | 117 => ⟨S_, .f32⟩
  | 118 => ⟨S262144, .f32⟩
  | 119 => ⟨S1x1x512x512, .f32⟩
  | 120 => ⟨S512x512, .f32⟩
  | 121 => ⟨S1x1x512x512, .f32⟩
  | 122 => ⟨S17x17x512x512, .f32⟩
  | 123 => ⟨S17x17x512x512, .f32⟩
  | 124 => ⟨S75759616, .f32⟩
  | 125 => ⟨S_, .i32⟩
  | 126 => ⟨S75759616, .i32⟩
  | 127 => ⟨S75759616, .i1⟩
  | _ => ⟨S1x3x512x512, .f32⟩

abbrev hbmTy0_1 (i : Nat) : BufTy := match i % 128 with
  | 0 => ⟨S_, .i32⟩
  | 1 => ⟨S75759616, .i32⟩
  | 2 => ⟨S75759616, .i32⟩
  | 3 => ⟨S75759616, .i32⟩
  | 4 => ⟨S75759616x1, .i32⟩
  | 5 => ⟨S262144, .f32⟩
  | 6 => ⟨S_, .f32⟩
  | 7 => ⟨S262144, .f32⟩
  | 8 => ⟨S1x1x512x512, .f32⟩
  | 9 => ⟨S512x512, .f32⟩
  | 10 => ⟨S1x1x512x512, .f32⟩
  | 11 => ⟨S17x17x512x512, .f32⟩
  | 12 => ⟨S17x17x512x512, .f32⟩
  | 13 => ⟨S75759616, .f32⟩
  | 14 => ⟨S_, .i32⟩
  | 15 => ⟨S75759616, .i32⟩
  | 16 => ⟨S75759616, .i1⟩
  | 17 => ⟨S_, .i32⟩
  | 18 => ⟨S75759616, .i32⟩
  | 19 => ⟨S75759616, .i32⟩
  | 20 => ⟨S75759616, .i32⟩
  | 21 => ⟨S75759616x1, .i32⟩
  | 22 => ⟨S262144, .f32⟩
  | 23 => ⟨S17x17x512x512, .i1⟩
  | 24 => ⟨S1x1x512x512, .f32⟩
  | 25 => ⟨S17x17x512x512, .f32⟩
  | 26 => ⟨S17x17x512x512, .i1⟩
  | 27 => ⟨S17x17x512x512, .i1⟩
  | 28 => ⟨S17x17x512x512, .i32⟩
  | 29 => ⟨S_, .i32⟩
  | 30 => ⟨S_, .i32⟩
  | 31 => ⟨S17x17x512x512, .i32⟩
  | 32 => ⟨S17x17x512x512, .i32⟩
  | 33 => ⟨S_, .i32⟩
  | 34 => ⟨S262144, .i32⟩
  | 35 => ⟨S75759616, .i32⟩
  | 36 => ⟨S_, .i32⟩
  | 37 => ⟨S75759616, .i32⟩
  | 38 => ⟨S75759616, .i1⟩
  | 39 => ⟨S_, .i32⟩
  | 40 => ⟨S75759616, .i32⟩
  | 41 => ⟨S75759616, .i32⟩
  | 42 => ⟨S75759616, .i32⟩
  | 43 => ⟨S75759616x1, .i32⟩
  | 44 => ⟨S262144, .i32⟩
  | 45 => ⟨S1x262144, .f32⟩
  | 46 => ⟨S1x262144, .f32⟩
  | 47 => ⟨S1x262144, .f32⟩
  | 48 => ⟨S3x262144, .f32⟩
  | 49 => ⟨S3x512x512, .f32⟩
  | 50 => ⟨S1x512x512, .f32⟩
  | 51 => ⟨S3x512x512, .f32⟩
  | 52 => ⟨S3x512x512, .f32⟩
  | 53 => ⟨S512x512, .i32⟩
  | 54 => ⟨S512x512, .f32⟩
  | 55 => ⟨S512x512, .f32⟩
  | 56 => ⟨S512x512, .i32⟩
  | _ => ⟨S1x3x512x512, .f32⟩

abbrev hbmTy (i : Nat) : BufTy := match i / 128 with
  | 0 => hbmTy0_0 i
  | 1 => hbmTy0_1 i
  | _ => ⟨S1x3x512x512, .f32⟩

abbrev bufTy : (tb : Table) → Fin (tcTables nBuf tb) → BufTy
  | .hbm, ⟨i, _⟩ => hbmTy i
  | _, _ => ⟨S1x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_3 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_call0_v0 : Ref sig .tc := ⟨.hbm, 76, rfl⟩
abbrev main_call0_v1 : Ref sig .tc := ⟨.hbm, 77, rfl⟩
abbrev main_v61 : Ref sig .tc := ⟨.hbm, 78, rfl⟩
abbrev main_c_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_12 : Ref sig .tc := ⟨.hbm, 83, rfl⟩
abbrev main_call1_v0 : Ref sig .tc := ⟨.hbm, 84, rfl⟩
abbrev main_call1_v1 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_17 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_19 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_20 : Ref sig .tc := ⟨.hbm, 125, rfl⟩
abbrev main_v97 : Ref sig .tc := ⟨.hbm, 126, rfl⟩
abbrev main_v98 : Ref sig .tc := ⟨.hbm, 127, rfl⟩
abbrev main_c_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_22 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_23 : Ref sig .tc := ⟨.hbm, 142, rfl⟩
abbrev main_v111 : Ref sig .tc := ⟨.hbm, 143, rfl⟩
abbrev main_v112 : Ref sig .tc := ⟨.hbm, 144, rfl⟩
abbrev main_c_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_c_25 : Ref sig .tc := ⟨.hbm, 157, rfl⟩
abbrev main_call2_v0 : Ref sig .tc := ⟨.hbm, 158, rfl⟩
abbrev main_call2_v1 : Ref sig .tc := ⟨.hbm, 159, rfl⟩
abbrev main_v124 : Ref sig .tc := ⟨.hbm, 160, rfl⟩
abbrev main_c_26 : Ref sig .tc := ⟨.hbm, 161, rfl⟩
abbrev main_v125 : Ref sig .tc := ⟨.hbm, 162, rfl⟩
abbrev main_v126 : Ref sig .tc := ⟨.hbm, 163, rfl⟩
abbrev main_c_27 : Ref sig .tc := ⟨.hbm, 164, rfl⟩
abbrev main_v127 : Ref sig .tc := ⟨.hbm, 165, rfl⟩
abbrev main_v128 : Ref sig .tc := ⟨.hbm, 166, rfl⟩
abbrev main_c_28 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩

abbrev nD : Nat := 1
abbrev τ : Topo := Topo.v7x

variable {F : FTy → Type} [FloatOps F]
-- ==== Proof.Towers.lean ====
/-
  The four sums and the running maximum of one grid step, composed from the step's named intermediate values, and what
  each is at an index: a sum (or a maximum) over the seventeen column shifts of one function of the shift.
-/
module

public import proofs.«01_k».proof.Defs
public import proofs.«01_k».proof.Proof.Gen.KernelIdeal.Skeleton
public import Idealize.ShloMosaic.Lib.Pointwise

@[expose] public section

set_option maxRecDepth 16384

noncomputable section

namespace Cert.Bokeh

open Cert.KernelIdeal Cert.KernelIdeal.Gen Idealize.ShloMosaic Idealize.SL.Sem

section Compose

variable {F : FTy → Type} [FloatOps F] [Named F]

/-- The weights' sum over the column shifts of one step: `r` the rows of the defocus, `v` of its variance, `s` the
    squared row shift. -/
def wTower (r v : FVec F S64x528 .f32) (s : F .f32) : FVec F S64x512 .f32 :=
  k0_pay84 r v s (k0_pay77 r v s (k0_pay69 r v s (k0_pay60 r v s (k0_pay53 r v s
    (k0_pay45 r v s (k0_pay37 r v s (k0_pay22 r v s k0_pay17) (k0_pay29 r v s)) (k0_pay38 r v s))))))

/-- The first colour's weighted sum over the column shifts of one step. -/
def bTower0 (r im v : FVec F S64x528 .f32) (s : F .f32) : FVec F S64x512 .f32 :=
  k0_pay85 r im v s (k0_pay78 r im v s (k0_pay70 r im v s (k0_pay61 r im v s (k0_pay54 r im v s
    (k0_pay39 im (k0_pay30 im (k0_pay23 r im v s k0_pay18) (k0_pay28 r v s)) (k0_pay35 r v s))
    (k0_pay46 r im v s) (k0_pay47 r im v s)))))

/-- The second colour's weighted sum over the column shifts of one step. -/
def bTower1 (r im v : FVec F S64x528 .f32) (s : F .f32) : FVec F S64x512 .f32 :=
  k0_pay86 r im v s (k0_pay79 r im v s (k0_pay71 r im v s (k0_pay63 r im v s
    (k0_pay48 im (k0_pay40 im (k0_pay31 im (k0_pay24 r im v s k0_pay19) (k0_pay28 r v s)) (k0_pay35 r v s)) (k0_pay44 r v s))
    (k0_pay55 r im v s)) (k0_pay64 r im v s)))

/-- The third colour's weighted sum over the column shifts of one step. -/
def bTower2 (r im v : FVec F S64x528 .f32) (s : F .f32) : FVec F S64x512 .f32 :=
  k0_pay87 r im v s (k0_pay80 r im v s (k0_pay65 im (k0_pay56 im (k0_pay49 im (k0_pay41 im
    (k0_pay32 im (k0_pay25 r im v s) (k0_pay28 r v s)) (k0_pay35 r v s)) (k0_pay44 r v s)) (k0_pay52 r v s)) (k0_pay59 r v s))
    (k0_pay72 r im v s) (k0_pay73 r im v s))

/-- The dilated value after one step: `f` the rows of the defocus rounded down, `old` what the step found. -/
def dTower (r f : FVec F S64x528 .f32) (s : F .f32) (old : FVec F S64x512 .f32) : FVec F S64x512 .f32 :=
  k0_pay93 (k0_pay81 r f (k0_pay74 r f (k0_pay66 r f (k0_pay57 r f (k0_pay50 r f (k0_pay42 r f (k0_pay33 r f
    (k0_pay26 r f s) (k0_pay27 s)) (k0_pay34 s)) (k0_pay43 s)) (k0_pay51 s)) (k0_pay58 s)) (k0_pay67 s)) (k0_pay75 s))
    (k0_pay88 r f s) old

end Compose

/-! ## At an index -/

/-- The squared column shift of slice `o`, as the kernel's constant of it. -/
def sq (o : Fin 17) : EReal :=
  ![Ideal.ofBits .f32 0x42800000#32, Ideal.ofBits .f32 0x42440000#32, Ideal.ofBits .f32 0x42100000#32,
    Ideal.ofBits .f32 0x41C80000#32, Ideal.ofBits .f32 0x41800000#32, Ideal.ofBits .f32 0x41100000#32,
    Ideal.ofBits .f32 0x40800000#32, Ideal.ofBits .f32 0x3F800000#32, Ideal.ofBits .f32 0x00000000#32,
    Ideal.ofBits .f32 0x3F800000#32, Ideal.ofBits .f32 0x40800000#32, Ideal.ofBits .f32 0x41100000#32,
    Ideal.ofBits .f32 0x41800000#32, Ideal.ofBits .f32 0x41C80000#32, Ideal.ofBits .f32 0x42100000#32,
    Ideal.ofBits .f32 0x42440000#32, Ideal.ofBits .f32 0x42800000#32] o

/-- The kernel's weight of a pixel of defocus `r` and variance `v` at squared distance `q`. -/
def kw (r v q : EReal) : EReal :=
  Ideal.div 1 (Ideal.exp2 (r * Named.named (F := Ideal) κ (φ := .f32) "steep_neg" 0xC138AA3B#32 + Named.named (F := Ideal) κ (φ := .f32) "steep" 0x4138AA3B#32 * Ideal.sqrt q) * v + v)

/-- The kernel's dilation candidate of a pixel of defocus `r`, rounded down to `f`, at squared distance `q`. -/
def kd (r f q : EReal) : EReal := if Ideal.sqrt q ≤ r then f else 0

theorem col_lt (l : Fin 512) (o : Fin 17) : (o : ℕ) + (l : ℕ) < 528 := by omega

/-- The kernel adds the shifts outward from the middle; over the extended reals that is their sum. -/
theorem sum_outward (f : Fin 17 → EReal) :
    0 + f 8 + f 9 + f 7 + f 10 + f 6 + f 11 + f 5 + f 12 + f 4 + f 13 + f 3 + f 14 + f 2 + f 15 + f 1 + f 16 + f 0 = ∑ o : Fin 17, f o := by
  simp only [Fin.sum_univ_succ, Fin.sum_univ_zero, Fin.succ_zero_eq_one, Fin.succ_one_eq_two]
  show _ = f 0 + (f 1 + (f 2 + (f 3 + (f 4 + (f 5 + (f 6 + (f 7 + (f 8 + (f 9 + (f 10 + (f 11 + (f 12 + (f 13 + (f 14 + (f 15 + (f 16 + 0))))))))))))))))
  rw [add_zero, zero_add]
  ac_rfl

/-- The kernel takes the maximum outward from the middle, from 0: below a bound exactly if 0 and every shift are. -/
theorem max_outward (f : Fin 17 → EReal) (c : EReal) :
    max (max (max (max (max (max (max (max (max (max (max (max (max (max (max (max (max 0 (f 8)) (f 9)) (f 7)) (f 10)) (f 6)) (f 11)) (f 5)) (f 12)) (f 4)) (f 13)) (f 3)) (f 14)) (f 2)) (f 15)) (f 1)) (f 16)) (f 0) ≤ c ↔ 0 ≤ c ∧ ∀ o : Fin 17, f o ≤ c := by
  simp only [max_le_iff]
  constructor
  · rintro h
    refine ⟨by tauto, fun o => ?_⟩
    fin_cases o <;> tauto
  · rintro ⟨h0, h⟩
    simp only [h, h0, and_self]

/-- One step's weight sum. -/
theorem wTower_at (r v : FVec Ideal S64x528 .f32) (s : EReal) (y : Fin 64) (l : Fin 512) :
    wTower (F := Ideal) r v s (ix2 y l)
      = ∑ o : Fin 17, kw (r (ix2 y ⟨o + l, col_lt l o⟩)) (v (ix2 y ⟨o + l, col_lt l o⟩)) (s + sq o) := by
  refine Eq.trans ?_ (sum_outward _)
  pointwise [wTower, k0_pay84, k0_pay77, k0_pay69, k0_pay60, k0_pay53, k0_pay45, k0_pay37, k0_pay22, k0_pay17, k0_pay29, k0_pay38,
    k0_pay36, k0_pay21, k0_pay28, k0_pay35, k0_pay44, k0_pay52, k0_pay59, k0_pay68, k0_pay76, k0_pay83]
  rfl

/-- One step's weighted sum of the first colour. -/
theorem bTower0_at (r im v : FVec Ideal S64x528 .f32) (s : EReal) (y : Fin 64) (l : Fin 512) :
    bTower0 (F := Ideal) r im v s (ix2 y l)
      = ∑ o : Fin 17, kw (r (ix2 y ⟨o + l, col_lt l o⟩)) (v (ix2 y ⟨o + l, col_lt l o⟩)) (s + sq o) * im (ix2 y ⟨o + l, col_lt l o⟩) := by
  refine Eq.trans ?_ (sum_outward _)
  pointwise [bTower0, k0_pay85, k0_pay78, k0_pay70, k0_pay61, k0_pay54, k0_pay39, k0_pay30, k0_pay23, k0_pay18, k0_pay46, k0_pay47,
    k0_pay62, k0_pay21, k0_pay28, k0_pay35, k0_pay44, k0_pay52, k0_pay59, k0_pay68, k0_pay76, k0_pay83]
  rfl

/-- One step's weighted sum of the second colour. -/
theorem bTower1_at (r im v : FVec Ideal S64x528 .f32) (s : EReal) (y : Fin 64) (l : Fin 512) :
    bTower1 (F := Ideal) r im v s (ix2 y l)
      = ∑ o : Fin 17, kw (r (ix2 y ⟨o + l, col_lt l o⟩)) (v (ix2 y ⟨o + l, col_lt l o⟩)) (s + sq o) * im (ix2 y ⟨o + l, col_lt l o⟩) := by
  refine Eq.trans ?_ (sum_outward _)
  pointwise [bTower1, k0_pay86, k0_pay79, k0_pay71, k0_pay63, k0_pay48, k0_pay40, k0_pay31, k0_pay24, k0_pay19, k0_pay55, k0_pay64,
    k0_pay62, k0_pay21, k0_pay28, k0_pay35, k0_pay44, k0_pay52, k0_pay59, k0_pay68, k0_pay76, k0_pay83]
  rfl

/-- One step's weighted sum of the third colour. -/
theorem bTower2_at (r im v : FVec Ideal S64x528 .f32) (s : EReal) (y : Fin 64) (l : Fin 512) :
    bTower2 (F := Ideal) r im v s (ix2 y l)
      = ∑ o : Fin 17, kw (r (ix2 y ⟨o + l, col_lt l o⟩)) (v (ix2 y ⟨o + l, col_lt l o⟩)) (s + sq o) * im (ix2 y ⟨o + l, col_lt l o⟩) := by
  refine Eq.trans ?_ (sum_outward _)
  pointwise [bTower2, k0_pay87, k0_pay80, k0_pay65, k0_pay56, k0_pay49, k0_pay41, k0_pay32, k0_pay25, k0_pay72, k0_pay73,
    k0_pay62, k0_pay21, k0_pay28, k0_pay35, k0_pay44, k0_pay52, k0_pay59, k0_pay68, k0_pay76, k0_pay83]
  rfl

/-- One step's dilated value: below a bound exactly if 0, what it found, and every shift's candidate are. -/
theorem dTower_le (r f : FVec Ideal S64x528 .f32) (s : EReal) (old : FVec Ideal S64x512 .f32) (y : Fin 64) (l : Fin 512) (c : EReal) :
    dTower (F := Ideal) r f s old (ix2 y l) ≤ c
      ↔ old (ix2 y l) ≤ c ∧ 0 ≤ c ∧ ∀ o : Fin 17, kd (r (ix2 y ⟨o + l, col_lt l o⟩)) (f (ix2 y ⟨o + l, col_lt l o⟩)) (s + sq o) ≤ c := by
  rw [← max_outward, ← max_le_iff]
  refine iff_of_eq (congrArg (· ≤ c) ?_)
  pointwise [dTower, k0_pay93, k0_pay81, k0_pay74, k0_pay66, k0_pay57, k0_pay50, k0_pay42, k0_pay33, k0_pay26, k0_pay88]
  rfl

end Cert.Bokeh

end
-- ==== Proof.Steps.lean ====
module

public import proofs.«01_k».proof.Proof.Towers
public import proofs.«01_k».proof.Proof.Gen.KernelIdeal.Value
public import Idealize.ShloMosaic.Lib.Pipeline.ValueKit
public import Idealize.ShloMosaic.Lib.Pipeline.ReadBack
public import Idealize.ShloMosaic.Lib.Tactic

@[expose] public section

set_option maxRecDepth 16384

noncomputable section

namespace Cert.Bokeh

open Cert.KernelIdeal Cert.KernelIdeal.Gen Idealize.ShloMosaic Idealize.ShloMosaic.TcCoe Idealize.SL.Sem

section

variable {F : FTy → Type} [FloatOps F] [Named F]

theorem hz : (![0, 0] : Fin 2 → Nat) = fun _ => 0 := funext fun a => by fin_cases a <;> rfl

theorem hz3 : (![0, 0, 0] : Fin 3 → Nat) = fun _ => 0 := funext fun a => by fin_cases a <;> rfl

/-- The rows of defocus that one grid step loads. -/
def rowsD (i : grid0.Coords) (x : Vec F S528x528 .f32) : Vec F S80x528 .f32 :=
  View.ld x (Rect.unit (k0_off1 i) S80x528.size (k0_off1_inb i))

/-- The rows of the image's three planes that one grid step loads. -/
def rowsI0 (i : grid0.Coords) (x : Vec F S3x528x528 .f32) : Vec F S1x80x528 .f32 :=
  View.ld x (Rect.unit (k0_off2 i) S1x80x528.size (k0_off2_inb i))

@[inherit_doc rowsI0] def rowsI1 (i : grid0.Coords) (x : Vec F S3x528x528 .f32) : Vec F S1x80x528 .f32 :=
  View.ld x (Rect.unit (k0_off3 i) S1x80x528.size (k0_off3_inb i))

@[inherit_doc rowsI0] def rowsI2 (i : grid0.Coords) (x : Vec F S3x528x528 .f32) : Vec F S1x80x528 .f32 :=
  View.ld x (Rect.unit (k0_off4 i) S1x80x528.size (k0_off4_inb i))

/-- The weights' sum of one grid step over the padded defocus `x`. -/
def stepW (i : grid0.Coords) (x : Vec F S528x528 .f32) : FVec F S64x512 .f32 :=
  wTower (k0_pay10 i (rowsD i x)) (k0_pay14 i (rowsD i x)) (k0_pay16 i)

/-- The three colours' weighted sums of one grid step over the padded defocus `x` and image `u`. -/
def stepB (i : grid0.Coords) (x : Vec F S528x528 .f32) (u : Vec F S3x528x528 .f32) (p : Fin 3) : FVec F S64x512 .f32 :=
  match p with
  | 0 => bTower0 (k0_pay10 i (rowsD i x)) (k0_pay11 i (rowsI0 i u)) (k0_pay14 i (rowsD i x)) (k0_pay16 i)
  | 1 => bTower1 (k0_pay10 i (rowsD i x)) (k0_pay12 i (rowsI1 i u)) (k0_pay14 i (rowsD i x)) (k0_pay16 i)
  | 2 => bTower2 (k0_pay10 i (rowsD i x)) (k0_pay13 i (rowsI2 i u)) (k0_pay14 i (rowsD i x)) (k0_pay16 i)

/-- The dilated value after one grid step over the padded defocus `x`, from what the step found. -/
def stepD (i : grid0.Coords) (x : Vec F S528x528 .f32) (old : FVec F S64x512 .f32) : FVec F S64x512 .f32 :=
  dTower (k0_pay10 i (rowsD i x)) (k0_pay15 i (rowsD i x)) (k0_pay16 i) old

end

/-! ## The stored values at an index -/

theorem pay90_at (w : FVec Ideal S64x512 .f32) (old : Vec Ideal S1x64x512 .f32) (y : Fin 64) (l : Fin 512) :
    k0_pay90 w old (ix3 (0 : Fin 1) y l) = (show EReal from old (ix3 (0 : Fin 1) y l)) + w (ix2 y l) := by
  pointwise [k0_pay90]

theorem pay89_at (w : FVec Ideal S64x512 .f32) (old : Vec Ideal S64x512 .f32) (y : Fin 64) (l : Fin 512) :
    k0_pay89 w old (ix2 y l) = (show EReal from old (ix2 y l)) + w (ix2 y l) := by
  pointwise [k0_pay89]

theorem pay7_at (j : S64x512.Idx) : k0_pay7 (F := Ideal) j = (0 : EReal) := by
  pointwise [k0_pay7]

theorem pay8_at (j : S3x64x512.Idx) : k0_pay8 (F := Ideal) j = (0 : EReal) := by
  pointwise [k0_pay8]

theorem pay9_at (j : S64x512.Idx) : k0_pay9 (F := Ideal) j = (0 : EReal) := by
  pointwise [k0_pay9]

theorem pay3_at (w : Vec Ideal S64x512 .f32) (b : Vec Ideal S1x64x512 .f32) (y : Fin 64) (l : Fin 512) :
    k0_pay3 w b (ix3 (0 : Fin 1) y l) = (show EReal from b (ix3 (0 : Fin 1) y l)) * Ideal.div 1 (w (ix2 y l)) := by
  pointwise [k0_pay3, k0_pay2]

/-- The three stores of one plane each cover the three planes. -/
theorem planes_cover (w0 w1 w2 : S1x64x512.Idx → Elt Ideal .f32) (j : S3x64x512.Idx) :
    ∃ p ∈ ([⟨Rect.unit (s := S3x64x512) ![2, 0, 0] S1x64x512.size inb_S3x64x512_S1x64x512_2_0_0, w2⟩,
        ⟨Rect.unit (s := S3x64x512) ![1, 0, 0] S1x64x512.size inb_S3x64x512_S1x64x512_1_0_0, w1⟩,
        ⟨Rect.unit (s := S3x64x512) ![0, 0, 0] S1x64x512.size inb_S3x64x512_S1x64x512_0_0_0, w0⟩] : List (View.Piece (Elt Ideal) S3x64x512 .f32)),
      j ∈ p.1.set :=
  View.cover_of_tiledL _ ![1, 64, 512] (by sl_kernel_rfl) j

/-- Three stores of one plane each, over earlier stores, leave the function they are planes of. -/
theorem planes_eq (w0 w1 w2 : S1x64x512.Idx → Elt Ideal .f32) (L : List (View.Piece (Elt Ideal) S3x64x512 .f32)) (G : S3x64x512.Idx → Elt Ideal .f32)
    (h0 : ∀ y l, w0 (ix3 (0 : Fin 1) y l) = G (ix3 (0 : Fin 3) y l)) (h1 : ∀ y l, w1 (ix3 (0 : Fin 1) y l) = G (ix3 (1 : Fin 3) y l))
    (h2 : ∀ y l, w2 (ix3 (0 : Fin 1) y l) = G (ix3 (2 : Fin 3) y l)) :
    View.canon (⟨Rect.unit (s := S3x64x512) ![2, 0, 0] S1x64x512.size inb_S3x64x512_S1x64x512_2_0_0, w2⟩ ::
        ⟨Rect.unit (s := S3x64x512) ![1, 0, 0] S1x64x512.size inb_S3x64x512_S1x64x512_1_0_0, w1⟩ ::
        ⟨Rect.unit (s := S3x64x512) ![0, 0, 0] S1x64x512.size inb_S3x64x512_S1x64x512_0_0_0, w0⟩ :: L) = G := by
  have key : ∀ (o : Fin 3) (h : ∀ a, (![(o : ℕ), 0, 0] : Fin 3 → ℕ) a + S1x64x512.size a ≤ S3x64x512.size a) (x : S1x64x512.Idx),
      x = ix3 (0 : Fin 1) (x 1) (x 2) ∧ (Rect.unit (s := S3x64x512) ![(o : ℕ), 0, 0] S1x64x512.size h).emb x = ix3 o (x 1) (x 2) := by
    intro o h x
    refine ⟨funext fun a => ?_, funext fun a => Fin.ext ?_⟩
    · fin_cases a
      · exact Subsingleton.elim (α := Fin 1) _ _
      · rfl
      · rfl
    · fin_cases a
      · have : (x 0 : ℕ) < 1 := (x 0).isLt
        show (o : ℕ) + 1 * (x 0 : ℕ) = (o : ℕ)
        omega
      · show 0 + 1 * (x 1 : ℕ) = (x 1 : ℕ)
        omega
      · show 0 + 1 * (x 2 : ℕ) = (x 2 : ℕ)
        omega
  funext j
  refine View.canon_append_of_piecesOf G L [⟨Rect.unit (s := S3x64x512) ![2, 0, 0] S1x64x512.size inb_S3x64x512_S1x64x512_2_0_0, w2⟩,
        ⟨Rect.unit (s := S3x64x512) ![1, 0, 0] S1x64x512.size inb_S3x64x512_S1x64x512_1_0_0, w1⟩,
        ⟨Rect.unit (s := S3x64x512) ![0, 0, 0] S1x64x512.size inb_S3x64x512_S1x64x512_0_0_0, w0⟩] ⟨fun x => ?_, fun x => ?_, fun x => ?_, trivial⟩ j (planes_cover w0 w1 w2 j)
  · obtain ⟨hx, he⟩ := key 2 inb_S3x64x512_S1x64x512_2_0_0 x
    exact (congrArg w2 hx).trans ((h2 _ _).trans (congrArg G he).symm)
  · obtain ⟨hx, he⟩ := key 1 inb_S3x64x512_S1x64x512_1_0_0 x
    exact (congrArg w1 hx).trans ((h1 _ _).trans (congrArg G he).symm)
  · obtain ⟨hx, he⟩ := key 0 inb_S3x64x512_S1x64x512_0_0_0 x
    exact (congrArg w0 hx).trans ((h0 _ _).trans (congrArg G he).symm)

/-- A plane of three, read at an index. -/
theorem plane_at (G : S3x64x512.Idx → Elt Ideal .f32) (o : Fin 3) (h : ∀ a, (![(o : ℕ), 0, 0] : Fin 3 → ℕ) a + S1x64x512.size a ≤ S3x64x512.size a)
    (y : Fin 64) (l : Fin 512) :
    View.ld G (Rect.unit (s := S3x64x512) ![(o : ℕ), 0, 0] S1x64x512.size h) (ix3 (0 : Fin 1) y l) = G (ix3 o y l) :=
  congrArg G (funext fun a => Fin.ext (by
    fin_cases a
    · show (o : ℕ) + 1 * 0 = (o : ℕ); omega
    · show 0 + 1 * (y : ℕ) = (y : ℕ); omega
    · show 0 + 1 * (l : ℕ) = (l : ℕ); omega))

section

variable (c : Dev nD) (i : grid0.Coords) (a2 : Memref sig .tc .vmem S528x528 .f32) (h2 : a2.IsWhole)
  (a3 : Memref sig .tc .vmem S3x528x528 .f32) (h3 : a3.IsWhole) (a4 : Memref sig .tc .vmem S64x512 .f32) (h4 : a4.IsWhole)
  (a5 : Memref sig .tc .vmem S3x64x512 .f32) (h5 : a5.IsWhole) (a6 : Memref sig .tc .vmem S64x512 .i32) (h6 : a6.IsWhole)
  (a7 : Memref sig .tc .vmem S3x64x512 .f32) (h7 : a7.IsWhole) (a8 : Memref sig .tc .vmem S64x512 .f32) (h8 : a8.IsWhole)
  (a9 : Memref sig .tc .vmem S64x512 .f32) (h9 : a9.IsWhole)
  (x0 : Vec Ideal S528x528 .f32) (x1 : Vec Ideal S3x528x528 .f32) (x2 : Vec Ideal S64x512 .f32) (xs0 : Vec Ideal S3x64x512 .f32)
  (xs1 xs2 : Vec Ideal S64x512 .f32)

/-- What the grid step leaves in the weights' accumulator. -/
theorem soutB1 (hc0 : ¬cond0_0 i) (hc1 : ¬cond0_1 i) :
    sout0_B_1 c i a2 h2 a3 h3 a4 h4 a5 h5 a6 h6 a7 h7 a8 h8 a9 h9 hc0 hc1 x0 x1 x2 xs0 xs1 xs2 = k0_pay89 (F := Ideal) (stepW i x0) xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2)]
  unfold kernelRun0_B
  dsimp only
  sl_unfold_words
  rw [View.canon_unit_zero (S := S64x512) hz]
  simp only [View.readAt_eq_ld, h2.read_unread, h3.read_unread, h4.read_unread, h7.read_unread, h8.read_unread, h9.read_unread, View.ld_unit_zero (S := S64x512) hz, shapeCast_self]
  rfl

/-- What the grid step leaves in the dilation's accumulator. -/
theorem soutB2 (hc0 : ¬cond0_0 i) (hc1 : ¬cond0_1 i) :
    sout0_B_2 c i a2 h2 a3 h3 a4 h4 a5 h5 a6 h6 a7 h7 a8 h8 a9 h9 hc0 hc1 x0 x1 x2 xs0 xs1 xs2 = k0_pay1 (F := Ideal) (stepD i x0 xs2) := by
  unfold sout0_B_2
  rw [View.read_writes_eq_canon _ _ _ (scover0_B_2 c i a2 h2 a3 h3 a4 h4 a5 h5 a6 h6 a7 h7 a8 h8 a9 h9 hc0 hc1 x0 x1 x2 xs0 xs1 xs2)]
  unfold kernelRun0_B
  dsimp only
  sl_unfold_words
  rw [View.canon_unit_zero (S := S64x512) hz]
  simp only [View.readAt_eq_ld, h2.read_unread, h3.read_unread, h4.read_unread, h7.read_unread, h8.read_unread, h9.read_unread, View.ld_unit_zero (S := S64x512) hz, shapeCast_self]
  rfl

/-- What the grid step leaves in the colours' accumulator. -/
theorem soutB0 (hc0 : ¬cond0_0 i) (hc1 : ¬cond0_1 i) :
    sout0_B_0 c i a2 h2 a3 h3 a4 h4 a5 h5 a6 h6 a7 h7 a8 h8 a9 h9 hc0 hc1 x0 x1 x2 xs0 xs1 xs2 = fun j => (show EReal from xs0 j) + stepB i x0 x1 (j 0) (ix2 (j 1) (j 2)) := by
  unfold sout0_B_0
  rw [View.read_writes_eq_canon _ _ _ (scover0_B_0 c i a2 h2 a3 h3 a4 h4 a5 h5 a6 h6 a7 h7 a8 h8 a9 h9 hc0 hc1 x0 x1 x2 xs0 xs1 xs2)]
  unfold kernelRun0_B
  dsimp only
  sl_unfold_words
  simp (disch := decide) only [↓View.readCov_skip, ↓View.readCov_fill, View.readCov_cons_toLoadRect, View.readAt_eq_ld, h2.read_unread, h3.read_unread, h4.read_unread, h7.read_unread, h8.read_unread, h9.read_unread, View.ld_unit_zero (S := S64x512) hz, shapeCast_self]
  refine planes_eq _ _ _ _ _ (fun y l => ?_) (fun y l => ?_) (fun y l => ?_)
  · exact (pay90_at _ _ y l).trans (congrArg (· + _) (plane_at xs0 0 _ y l))
  · exact (pay90_at _ _ y l).trans (congrArg (· + _) (plane_at xs0 1 _ y l))
  · exact (pay90_at _ _ y l).trans (congrArg (· + _) (plane_at xs0 2 _ y l))

/-- What the grid step leaves in the weights' accumulator. -/
theorem soutC1 (hc0 : ¬cond0_0 i) (hc1 : cond0_1 i) :
    sout0_C_1 c i a2 h2 a3 h3 a4 h4 a5 h5 a6 h6 a7 h7 a8 h8 a9 h9 hc0 hc1 x0 x1 x2 xs0 xs1 xs2 = k0_pay89 (F := Ideal) (stepW i x0) xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero (S := S64x512) hz]
  simp only [View.readAt_eq_ld, h2.read_unread, h3.read_unread, h4.read_unread, h7.read_unread, h8.read_unread, h9.read_unread, View.ld_unit_zero (S := S64x512) hz, shapeCast_self]
  rfl

/-- What the grid step leaves in the dilation's accumulator. -/
theorem soutC2 (hc0 : ¬cond0_0 i) (hc1 : cond0_1 i) :
    sout0_C_2 c i a2 h2 a3 h3 a4 h4 a5 h5 a6 h6 a7 h7 a8 h8 a9 h9 hc0 hc1 x0 x1 x2 xs0 xs1 xs2 = k0_pay1 (F := Ideal) (stepD i x0 xs2) := by
  unfold sout0_C_2
  rw [View.read_writes_eq_canon _ _ _ (scover0_C_2 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero (S := S64x512) hz]
  simp only [View.readAt_eq_ld, h2.read_unread, h3.read_unread, h4.read_unread, h7.read_unread, h8.read_unread, h9.read_unread, View.ld_unit_zero (S := S64x512) hz, shapeCast_self]
  rfl

/-- What the grid step leaves in the colours' accumulator. -/
theorem soutC0 (hc0 : ¬cond0_0 i) (hc1 : cond0_1 i) :
    sout0_C_0 c i a2 h2 a3 h3 a4 h4 a5 h5 a6 h6 a7 h7 a8 h8 a9 h9 hc0 hc1 x0 x1 x2 xs0 xs1 xs2 = fun j => (show EReal from xs0 j) + stepB i x0 x1 (j 0) (ix2 (j 1) (j 2)) := by
  unfold sout0_C_0
  rw [View.read_writes_eq_canon _ _ _ (scover0_C_0 c i a2 h2 a3 h3 a4 h4 a5 h5 a6 h6 a7 h7 a8 h8 a9 h9 hc0 hc1 x0 x1 x2 xs0 xs1 xs2)]
  unfold kernelRun0_C
  dsimp only
  sl_unfold_words
  simp (disch := decide) only [↓View.readCov_skip, ↓View.readCov_fill, View.readCov_cons_toLoadRect, View.readAt_eq_ld, h2.read_unread, h3.read_unread, h4.read_unread, h7.read_unread, h8.read_unread, h9.read_unread, View.ld_unit_zero (S := S64x512) hz, shapeCast_self]
  refine planes_eq _ _ _ _ _ (fun y l => ?_) (fun y l => ?_) (fun y l => ?_)
  · exact (pay90_at _ _ y l).trans (congrArg (· + _) (plane_at xs0 0 _ y l))
  · exact (pay90_at _ _ y l).trans (congrArg (· + _) (plane_at xs0 1 _ y l))
  · exact (pay90_at _ _ y l).trans (congrArg (· + _) (plane_at xs0 2 _ y l))

/-- What the grid step leaves in the weights' accumulator. -/
theorem soutA1 (hc0 : cond0_0 i) (hc1 : ¬cond0_1 i) :
    sout0_A_1 c i a2 h2 a3 h3 a4 h4 a5 h5 a6 h6 a7 h7 a8 h8 a9 h9 hc0 hc1 x0 x1 x2 = k0_pay89 (F := Ideal) (stepW i x0) (k0_pay7 (F := Ideal)) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S64x512) hz, View.readCov_unit_zero (S := S64x512) _ hz]
  simp only [View.readAt_eq_ld, h2.read_unread, h3.read_unread, h4.read_unread, h7.read_unread, h8.read_unread, h9.read_unread, View.ld_unit_zero (S := S64x512) hz, shapeCast_self]
  rfl

/-- What the grid step leaves in the dilation's accumulator. -/
theorem soutA2 (hc0 : cond0_0 i) (hc1 : ¬cond0_1 i) :
    sout0_A_2 c i a2 h2 a3 h3 a4 h4 a5 h5 a6 h6 a7 h7 a8 h8 a9 h9 hc0 hc1 x0 x1 x2 = k0_pay1 (F := Ideal) (stepD i x0 (k0_pay9 (F := Ideal))) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero (S := S64x512) hz, View.readCov_unit_zero (S := S64x512) _ hz]
  simp only [View.readAt_eq_ld, h2.read_unread, h3.read_unread, h4.read_unread, h7.read_unread, h8.read_unread, h9.read_unread, View.ld_unit_zero (S := S64x512) hz, shapeCast_self]
  rfl

/-- What the grid step leaves in the colours' accumulator. -/
theorem soutA0 (hc0 : cond0_0 i) (hc1 : ¬cond0_1 i) :
    sout0_A_0 c i a2 h2 a3 h3 a4 h4 a5 h5 a6 h6 a7 h7 a8 h8 a9 h9 hc0 hc1 x0 x1 x2 = fun j => (0 : EReal) + stepB i x0 x1 (j 0) (ix2 (j 1) (j 2)) := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  simp (disch := decide) only [↓View.readCov_skip, ↓View.readCov_fill, View.readCov_cons_toLoadRect, View.readAt_eq_ld, h2.read_unread, h3.read_unread, h4.read_unread, h7.read_unread, h8.read_unread, h9.read_unread, View.ld_unit_zero (S := S64x512) hz, shapeCast_self]
  refine planes_eq _ _ _ _ _ (fun y l => ?_) (fun y l => ?_) (fun y l => ?_)
  · exact (pay90_at _ _ y l).trans (congrArg (· + _) (pay8_at _))
  · exact (pay90_at _ _ y l).trans (congrArg (· + _) (pay8_at _))
  · exact (pay90_at _ _ y l).trans (congrArg (· + _) (pay8_at _))

/-- What a tile's last step leaves of the first result. -/
theorem outC3 (hc0 : ¬cond0_0 i) (hc1 : cond0_1 i) :
    out0_C_3 c i a2 h2 a3 h3 a4 h4 a5 h5 a6 h6 a7 h7 a8 h8 a9 h9 hc0 hc1 x0 x1 x2 xs0 xs1 xs2 = fun j => ((show EReal from xs0 j) + stepB i x0 x1 (j 0) (ix2 (j 1) (j 2)))
      * Ideal.div 1 ((show EReal from xs1 (ix2 (j 1) (j 2))) + stepW i x0 (ix2 (j 1) (j 2))) := by
  unfold out0_C_3
  rw [View.read_writes_eq_canon _ _ _ (cover0_C_3 c i a2 h2 a3 h3 a4 h4 a5 h5 a6 h6 a7 h7 a8 h8 a9 h9 hc0 hc1 x0 x1 x2 xs0 xs1 xs2)]
  unfold kernelRun0_C
  dsimp only
  sl_unfold_words
  rw [View.readCov_unit_zero (S := S64x512) _ hz]
  simp (disch := decide) only [↓View.readCov_skip, ↓View.readCov_fill, View.readCov_cons_toLoadRect, View.readAt_eq_ld, h2.read_unread, h3.read_unread, h4.read_unread, h7.read_unread, h8.read_unread, h9.read_unread, View.ld_unit_zero (S := S64x512) hz, shapeCast_self]
  refine planes_eq _ _ _ _ _ (fun y l => ?_) (fun y l => ?_) (fun y l => ?_)
  · exact (pay3_at _ _ y l).trans (congrArg₂ (· * ·) ((pay90_at _ _ y l).trans (congrArg (· + _) (plane_at xs0 0 _ y l))) (congrArg (Ideal.div 1) (pay89_at _ _ y l)))
  · exact (pay3_at _ _ y l).trans (congrArg₂ (· * ·) ((pay90_at _ _ y l).trans (congrArg (· + _) (plane_at xs0 1 _ y l))) (congrArg (Ideal.div 1) (pay89_at _ _ y l)))
  · exact (pay3_at _ _ y l).trans (congrArg₂ (· * ·) ((pay90_at _ _ y l).trans (congrArg (· + _) (plane_at xs0 2 _ y l))) (congrArg (Ideal.div 1) (pay89_at _ _ y l)))

/-- What a tile's last step leaves of the second result. -/
theorem outC4 (hc0 : ¬cond0_0 i) (hc1 : cond0_1 i) :
    out0_C_4 c i a2 h2 a3 h3 a4 h4 a5 h5 a6 h6 a7 h7 a8 h8 a9 h9 hc0 hc1 x0 x1 x2 xs0 xs1 xs2 = k0_pay6 x2 (k0_pay1 (stepD i x0 xs2)) := by
  unfold out0_C_4
  rw [View.read_writes_eq_canon _ _ _ (cover0_C_4 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero (S := S64x512) hz, View.readCov_unit_zero (S := S64x512) _ hz]
  simp only [View.readAt_eq_ld, h2.read_unread, h3.read_unread, h4.read_unread, h7.read_unread, h8.read_unread, h9.read_unread, View.ld_unit_zero (S := S64x512) hz, shapeCast_self]
  rfl

end

end Cert.Bokeh

end
-- ==== Proof.Blocks.lean ====
/-
  What one grid step reads: the host's padding, the windows' blocks and the row shift, and the step's sums and maximum
  over the arguments themselves.
-/
module

public import proofs.«01_k».proof.Proof.Steps
public import Idealize.ShloMosaic.Lib.Claim

@[expose] public section

set_option maxRecDepth 16384

noncomputable section

namespace Cert.Bokeh

open Cert.KernelIdeal Cert.KernelIdeal.Gen Idealize.ShloMosaic Idealize.ShloMosaic.TcCoe Idealize.SL.Sem

theorem ofBits_bot : Ideal.ofBits .f32 0xFF800000#32 = ⊥ := by simp [Ideal.ofBits, Ideal.ieee]

theorem sitofp_zero : FloatOps.sitofp (F := Ideal) .f32 (0#32) = (0 : EReal) := by
  show (((0#32 : BitVec 32).toInt : ℝ) : EReal) = 0
  simp

theorem rows_val (i : grid0.Coords) : (k0_off1 i) 0 = 64 * (i 0).val := by
  have h : (i 0).val < 8 := (i 0).isLt
  show (Scalar.muli (BitVec.ofNat 32 (i 0).val) 64#32).toNat = _
  simp [Scalar.muli, IntOp.muli, BitVec.toNat_mul, BitVec.toNat_ofNat]
  omega

theorem rot_val (k : ℕ) (h : k < 17) : (Scalar.subi 80#32 (BitVec.ofNat 32 k)).toNat = 80 - k := by
  show (80#32 - BitVec.ofNat 32 k).toNat = _
  rw [BitVec.toNat_sub]
  simp only [BitVec.toNat_ofNat]
  omega

theorem pay10_at (i : grid0.Coords) (x : Vec Ideal S80x528 .f32) (y : Fin 64) (c : Fin 528) :
    k0_pay10 i x (ix2 y c) = x (ix2 ⟨(y : ℕ) + (i 1).val, by have h : (i 1).val < 17 := (i 1).isLt; omega⟩ c) := by
  have h : (i 1).val < 17 := (i 1).isLt
  pointwise [k0_pay10]
  refine congrArg x (congrArg (ix2 · c) (Fin.ext ?_))
  rw [rot_val _ h]
  show ((y : ℕ) + 80 - (80 - (i 1).val) % 80) % 80 = (y : ℕ) + (i 1).val
  have := y.isLt
  omega

theorem pay11_at (i : grid0.Coords) (x : Vec Ideal S1x80x528 .f32) (y : Fin 64) (c : Fin 528) :
    k0_pay11 i x (ix2 y c) = x (ix3 (0 : Fin 1) ⟨(y : ℕ) + (i 1).val, by have h : (i 1).val < 17 := (i 1).isLt; omega⟩ c) := by
  have h : (i 1).val < 17 := (i 1).isLt
  pointwise [k0_pay11]
  refine congrArg x (congrArg (ix3 (0 : Fin 1) · c) (Fin.ext ?_))
  rw [rot_val _ h]
  show ((y : ℕ) + 80 - (80 - (i 1).val) % 80) % 80 = (y : ℕ) + (i 1).val
  have := y.isLt
  omega

theorem pay12_at (i : grid0.Coords) (x : Vec Ideal S1x80x528 .f32) (y : Fin 64) (c : Fin 528) :
    k0_pay12 i x (ix2 y c) = x (ix3 (0 : Fin 1) ⟨(y : ℕ) + (i 1).val, by have h : (i 1).val < 17 := (i 1).isLt; omega⟩ c) := by
  have h : (i 1).val < 17 := (i 1).isLt
  pointwise [k0_pay12]
  refine congrArg x (congrArg (ix3 (0 : Fin 1) · c) (Fin.ext ?_))
  rw [rot_val _ h]
  show ((y : ℕ) + 80 - (80 - (i 1).val) % 80) % 80 = (y : ℕ) + (i 1).val
  have := y.isLt
  omega

theorem pay13_at (i : grid0.Coords) (x : Vec Ideal S1x80x528 .f32) (y : Fin 64) (c : Fin 528) :
    k0_pay13 i x (ix2 y c) = x (ix3 (0 : Fin 1) ⟨(y : ℕ) + (i 1).val, by have h : (i 1).val < 17 := (i 1).isLt; omega⟩ c) := by
  have h : (i 1).val < 17 := (i 1).isLt
  pointwise [k0_pay13]
  refine congrArg x (congrArg (ix3 (0 : Fin 1) · c) (Fin.ext ?_))
  rw [rot_val _ h]
  show ((y : ℕ) + 80 - (80 - (i 1).val) % 80) % 80 = (y : ℕ) + (i 1).val
  have := y.isLt
  omega

theorem pay14_at (i : grid0.Coords) (x : Vec Ideal S80x528 .f32) (y : Fin 64) (c : Fin 528) :
    k0_pay14 i x (ix2 y c) = (show EReal from k0_pay10 i x (ix2 y c)) * k0_pay10 i x (ix2 y c) + Ideal.ofBits .f32 0x3E4CCCCD#32 := by
  pointwise [k0_pay14]

theorem pay15_at (i : grid0.Coords) (x : Vec Ideal S80x528 .f32) (y : Fin 64) (c : Fin 528) :
    k0_pay15 i x (ix2 y c) = Ideal.liftRound Int.floor (k0_pay10 i x (ix2 y c)) := by
  pointwise [k0_pay15]

theorem pay16_eq (i : grid0.Coords) : k0_pay16 (F := Ideal) i = (((((i 1).val : ℝ) - 8) ^ 2 : ℝ) : EReal) := by
  have h : (i 1).val < 17 := (i 1).isLt
  have hb : (Scalar.subi (BitVec.ofNat 32 (i 1).val) 8#32).toInt = ((i 1).val : ℤ) - 8 := by
    show (BitVec.ofNat 32 (i 1).val - 8#32).toInt = _
    generalize (i 1).val = k at h
    interval_cases k <;> decide
  show (((Scalar.subi (BitVec.ofNat 32 (i 1).val) 8#32).toInt : ℝ) : EReal) * (((Scalar.subi (BitVec.ofNat 32 (i 1).val) 8#32).toInt : ℝ) : EReal) = _
  rw [hb, ← EReal.coe_mul]
  push_cast
  rw [← pow_two]

theorem sq_eq (o : Fin 17) : sq o = (((((o : ℕ) : ℝ) - 8) ^ 2 : ℝ) : EReal) := by
  fin_cases o <;> simp [sq, Ideal.ofBits, Ideal.ieee] <;> norm_cast <;> norm_num

variable (m : (ℓ : Loc nD τ sig) → Buf (Elt Ideal) ℓ) (c : Dev nD)

/-- The padded defocus at an index. -/
def padD (d : S1x1x512x512.Idx → EReal) (Y X : ℕ) : EReal :=
  if h : (8 ≤ Y ∧ Y - 8 < 512) ∧ 8 ≤ X ∧ X - 8 < 512 then d (ix4 0 0 ⟨Y - 8, h.1.2⟩ ⟨X - 8, h.2.2⟩) else ⊥

/-- A plane of the padded image at an index. -/
def padI (u : S1x3x512x512.Idx → EReal) (p : Fin 3) (Y X : ℕ) : EReal :=
  if h : (8 ≤ Y ∧ Y - 8 < 512) ∧ 8 ≤ X ∧ X - 8 < 512 then u (ix4 0 p ⟨Y - 8, h.1.2⟩ ⟨X - 8, h.2.2⟩) else 0

theorem iblk0 (t : Fin cfg0.N) (Y X : Fin 528) : iblk m c 0 t (ix2 Y X) = V m c main_v2 (ix2 Y X) := by
  have idx : ∀ t : Fin cfg0.N, win0_0.index t = ![0, 0] := (by decide +kernel : ∀ t : Fin grid0.N, _)
  blk_point [iblk, idx]

theorem iblk2 (t : Fin cfg0.N) (y : Fin 64) (l : Fin 512) (h : 64 * (t.val / 17) + y < 512): iblk m c 2 t (ix2 y l) = V m c main_v0 (ix2 ⟨64 * (t.val / 17) + y, h⟩ l) := by
  have idx : ∀ t : Fin cfg0.N, win0_2.index t = ![t.val / 17, 0] := (by decide +kernel : ∀ t : Fin grid0.N, _)
  blk_point [iblk, idx]

theorem iblk1 (t : Fin cfg0.N) (p : Fin 3) (Y X : Fin 528) : iblk m c 1 t (ix3 p Y X) = V m c main_v3 (ix3 p Y X) := by
  have idx : ∀ t : Fin cfg0.N, win0_1.index t = ![0, 0, 0] := (by decide +kernel : ∀ t : Fin grid0.N, _)
  blk_point [iblk, idx]

/-- The padded defocus the host hands the kernel. -/
def rpadV (d : Vec Ideal S1x1x512x512 .f32) : Vec Ideal S528x528 .f32 :=
  pad S528x528 ![8, 8] ![8, 8] ![0, 0] (shapeCast S512x512 d shapeCasts_S1x1x512x512_S512x512) (constant (F := Ideal) S_ .f32 0xFF800000#32)
    pads_S512x512_S528x528_880_880 h_S_

/-- The padded image the host hands the kernel. -/
def impadV (u : Vec Ideal S1x3x512x512 .f32) : Vec Ideal S3x528x528 .f32 :=
  pad S3x528x528 ![0, 8, 8] ![0, 8, 8] ![0, 0, 0] (shapeCast S3x512x512 u shapeCasts_S1x3x512x512_S3x512x512)
    (sitofp (F := Ideal) .f32 (constantI S_ 32 0#32)) pads_S3x512x512_S3x528x528_000_880_880 h_S_

theorem rpadV_at (d : Vec Ideal S1x1x512x512 .f32) (Y X : Fin 528) : rpadV d (ix2 Y X) = padD d Y X := by
  pointwise [rpadV]
  unfold padD
  split
  · rfl
  · exact ofBits_bot

theorem impadV_at (u : Vec Ideal S1x3x512x512 .f32) (p : Fin 3) (Y X : Fin 528) : impadV u (ix3 p Y X) = padI u p Y X := by
  pointwise [impadV]
  unfold padI
  split
  · rfl
  · exact sitofp_zero

/-- The padded defocus a step reads, at its row and column. -/
theorem rowsD_at (i : grid0.Coords) (x : Vec Ideal S528x528 .f32) (R : Fin 80) (C : Fin 528) :
    rowsD i x (ix2 R C) = x (ix2 ⟨64 * (i 0).val + R, by have h : (i 0).val < 8 := (i 0).isLt; omega⟩ C) :=
  congrArg x (funext fun a => Fin.ext (by
    fin_cases a
    · show (k0_off1 i) 0 + 1 * (R : ℕ) = 64 * (i 0).val + (R : ℕ)
      rw [rows_val, Nat.one_mul]
    · show 0 + 1 * (C : ℕ) = (C : ℕ)
      omega))

theorem rowsI0_at (i : grid0.Coords) (x : Vec Ideal S3x528x528 .f32) (R : Fin 80) (C : Fin 528) :
    rowsI0 i x (ix3 (0 : Fin 1) R C) = x (ix3 (0 : Fin 3) ⟨64 * (i 0).val + R, by have h : (i 0).val < 8 := (i 0).isLt; omega⟩ C) :=
  congrArg x (funext fun a => Fin.ext (by
    fin_cases a
    · rfl
    · show (k0_off1 i) 0 + 1 * (R : ℕ) = 64 * (i 0).val + (R : ℕ)
      rw [rows_val, Nat.one_mul]
    · show 0 + 1 * (C : ℕ) = (C : ℕ)
      omega))

theorem rowsI1_at (i : grid0.Coords) (x : Vec Ideal S3x528x528 .f32) (R : Fin 80) (C : Fin 528) :
    rowsI1 i x (ix3 (0 : Fin 1) R C) = x (ix3 (1 : Fin 3) ⟨64 * (i 0).val + R, by have h : (i 0).val < 8 := (i 0).isLt; omega⟩ C) :=
  congrArg x (funext fun a => Fin.ext (by
    fin_cases a
    · rfl
    · show (k0_off1 i) 0 + 1 * (R : ℕ) = 64 * (i 0).val + (R : ℕ)
      rw [rows_val, Nat.one_mul]
    · show 0 + 1 * (C : ℕ) = (C : ℕ)
      omega))

theorem rowsI2_at (i : grid0.Coords) (x : Vec Ideal S3x528x528 .f32) (R : Fin 80) (C : Fin 528) :
    rowsI2 i x (ix3 (0 : Fin 1) R C) = x (ix3 (2 : Fin 3) ⟨64 * (i 0).val + R, by have h : (i 0).val < 8 := (i 0).isLt; omega⟩ C) :=
  congrArg x (funext fun a => Fin.ext (by
    fin_cases a
    · rfl
    · show (k0_off1 i) 0 + 1 * (R : ℕ) = 64 * (i 0).val + (R : ℕ)
      rw [rows_val, Nat.one_mul]
    · show 0 + 1 * (C : ℕ) = (C : ℕ)
      omega))

theorem V_v2 : V m c main_v2 = rpadV (m ((c : Thread nD τ).loc main_arg1)) := by
  unfold V
  simp only [hostOps0, hostOps0_1, hostOps0_2, hostOps0_3, List.flatten_cons, List.flatten_nil, List.append_nil, List.cons_append, List.nil_append]
  after_results
  rfl

theorem V_v3 : V m c main_v3 = impadV (m ((c : Thread nD τ).loc main_arg0)) := by
  unfold V
  simp only [hostOps0, hostOps0_1, hostOps0_2, hostOps0_3, List.flatten_cons, List.flatten_nil, List.append_nil, List.cons_append, List.nil_append]
  after_results
  rfl

theorem V_v0 (y l : Fin 512) : V m c main_v0 (ix2 y l) = m ((c : Thread nD τ).loc main_arg1) (ix4 0 0 y l) := by
  unfold V
  simp only [hostOps0, hostOps0_1, hostOps0_2, hostOps0_3, List.flatten_cons, List.flatten_nil, List.append_nil, List.cons_append, List.nil_append]
  after_results
  pointwise

/-! ## One grid step over the arguments -/

/-- The squared distance of the shift `(k - 8, o - 8)`. -/
def dsq (k o : ℕ) : ℝ := ((k : ℝ) - 8) ^ 2 + ((o : ℝ) - 8) ^ 2

/-- The kernel's weight of a pixel of defocus `r` under the shift `(k - 8, o - 8)`. -/
def wt (r : EReal) (k o : ℕ) : EReal := kw r (r * r + Ideal.ofBits .f32 0x3E4CCCCD#32) (dsq k o : EReal)

/-- The kernel's candidate for the dilation from a pixel of defocus `r` under the shift `(k - 8, o - 8)`. -/
def cand (r : EReal) (k o : ℕ) : EReal := kd r (Ideal.liftRound Int.floor r) (dsq k o : EReal)

theorem coords0 (t : Fin cfg0.N) : (grid0.coords t 0).val = t.val / 17 := by
  have e0 : (grid0.coords t 0).val = t.val / 17 % 8 := Pipeline.Grid.coords_val t 0 (by decide) rfl
  have ht : t.val < 136 := Nat.lt_of_lt_of_eq t.isLt N_0
  omega

theorem coords1 (t : Fin cfg0.N) : (grid0.coords t 1).val = t.val % 17 := by
  have e0 : (grid0.coords t 1).val = t.val / 1 % 17 := Pipeline.Grid.coords_val t 1 (by decide) rfl
  omega

/-- The defocus one step reads at row `y` of the tile. -/
theorem row_at (t : Fin cfg0.N) (y : Fin 64) (C : Fin 528) :
    k0_pay10 (grid0.coords t) (rowsD (grid0.coords t) (iblk m c 0 t)) (ix2 y C)
      = padD (m ((c : Thread nD τ).loc main_arg1)) (64 * (t.val / 17) + y + t.val % 17) C := by
  rw [pay10_at]
  refine (rowsD_at _ _ _ _).trans ((iblk0 m c t _ _).trans ((congrFun (V_v2 m c) _).trans ((rpadV_at _ _ _).trans ?_)))
  refine congrArg (padD _ · _) ?_
  show 64 * (grid0.coords t 0).val + ((y : ℕ) + (grid0.coords t 1).val) = _
  rw [coords0, coords1]
  omega

theorem im0_at (t : Fin cfg0.N) (y : Fin 64) (C : Fin 528) :
    k0_pay11 (grid0.coords t) (rowsI0 (grid0.coords t) (iblk m c 1 t)) (ix2 y C)
      = padI (m ((c : Thread nD τ).loc main_arg0)) 0 (64 * (t.val / 17) + y + t.val % 17) C := by
  rw [pay11_at]
  refine (rowsI0_at _ _ _ _).trans ((iblk1 m c t _ _ _).trans ((congrFun (V_v3 m c) _).trans ((impadV_at _ _ _ _).trans ?_)))
  refine congrArg (padI _ _ · _) ?_
  show 64 * (grid0.coords t 0).val + ((y : ℕ) + (grid0.coords t 1).val) = _
  rw [coords0, coords1]
  omega

theorem im1_at (t : Fin cfg0.N) (y : Fin 64) (C : Fin 528) :
    k0_pay12 (grid0.coords t) (rowsI1 (grid0.coords t) (iblk m c 1 t)) (ix2 y C)
      = padI (m ((c : Thread nD τ).loc main_arg0)) 1 (64 * (t.val / 17) + y + t.val % 17) C := by
  rw [pay12_at]
  refine (rowsI1_at _ _ _ _).trans ((iblk1 m c t _ _ _).trans ((congrFun (V_v3 m c) _).trans ((impadV_at _ _ _ _).trans ?_)))
  refine congrArg (padI _ _ · _) ?_
  show 64 * (grid0.coords t 0).val + ((y : ℕ) + (grid0.coords t 1).val) = _
  rw [coords0, coords1]
  omega

theorem im2_at (t : Fin cfg0.N) (y : Fin 64) (C : Fin 528) :
    k0_pay13 (grid0.coords t) (rowsI2 (grid0.coords t) (iblk m c 1 t)) (ix2 y C)
      = padI (m ((c : Thread nD τ).loc main_arg0)) 2 (64 * (t.val / 17) + y + t.val % 17) C := by
  rw [pay13_at]
  refine (rowsI2_at _ _ _ _).trans ((iblk1 m c t _ _ _).trans ((congrFun (V_v3 m c) _).trans ((impadV_at _ _ _ _).trans ?_)))
  refine congrArg (padI _ _ · _) ?_
  show 64 * (grid0.coords t 0).val + ((y : ℕ) + (grid0.coords t 1).val) = _
  rw [coords0, coords1]
  omega

theorem q_at (t : Fin cfg0.N) (o : Fin 17) :
    (show EReal from k0_pay16 (F := Ideal) (grid0.coords t)) + sq o = (dsq (t.val % 17) o : EReal) := by
  rw [pay16_eq, sq_eq, coords1, ← EReal.coe_add]
  rfl

theorem kw_at (t : Fin cfg0.N) (y : Fin 64) (C : Fin 528) (o : Fin 17) :
    kw (k0_pay10 (grid0.coords t) (rowsD (grid0.coords t) (iblk m c 0 t)) (ix2 y C))
      (k0_pay14 (grid0.coords t) (rowsD (grid0.coords t) (iblk m c 0 t)) (ix2 y C))
      ((show EReal from k0_pay16 (F := Ideal) (grid0.coords t)) + sq o)
      = wt (padD (m ((c : Thread nD τ).loc main_arg1)) (64 * (t.val / 17) + y + t.val % 17) C) (t.val % 17) o := by
  rw [pay14_at, row_at, q_at]
  rfl

/-- The weights one step sums at a pixel of the tile. -/
theorem stepW_at (t : Fin cfg0.N) (y : Fin 64) (l : Fin 512) :
    stepW (grid0.coords t) (iblk m c 0 t) (ix2 y l)
      = ∑ o : Fin 17, wt (padD (m ((c : Thread nD τ).loc main_arg1)) (64 * (t.val / 17) + y + t.val % 17) (o + l)) (t.val % 17) o := by
  refine (wTower_at _ _ _ _ _).trans (Finset.sum_congr rfl fun o _ => kw_at m c t y _ o)

/-- The weighted colours one step sums at a pixel of the tile. -/
theorem stepB_at (t : Fin cfg0.N) (p : Fin 3) (y : Fin 64) (l : Fin 512) :
    stepB (grid0.coords t) (iblk m c 0 t) (iblk m c 1 t) p (ix2 y l)
      = ∑ o : Fin 17, wt (padD (m ((c : Thread nD τ).loc main_arg1)) (64 * (t.val / 17) + y + t.val % 17) (o + l)) (t.val % 17) o
        * padI (m ((c : Thread nD τ).loc main_arg0)) p (64 * (t.val / 17) + y + t.val % 17) (o + l) := by
  fin_cases p
  · exact (bTower0_at _ _ _ _ _ _).trans (Finset.sum_congr rfl fun o _ => congrArg₂ (· * ·) (kw_at m c t y _ o) (im0_at m c t y _))
  · exact (bTower1_at _ _ _ _ _ _).trans (Finset.sum_congr rfl fun o _ => congrArg₂ (· * ·) (kw_at m c t y _ o) (im1_at m c t y _))
  · exact (bTower2_at _ _ _ _ _ _).trans (Finset.sum_congr rfl fun o _ => congrArg₂ (· * ·) (kw_at m c t y _ o) (im2_at m c t y _))

/-- The dilated value after one step, by its upper bounds. -/
theorem stepD_le (t : Fin cfg0.N) (old : FVec Ideal S64x512 .f32) (y : Fin 64) (l : Fin 512) (b : EReal) :
    (show EReal from stepD (grid0.coords t) (iblk m c 0 t) old (ix2 y l)) ≤ b ↔ (show EReal from old (ix2 y l)) ≤ b ∧ 0 ≤ b
      ∧ ∀ o : Fin 17, cand (padD (m ((c : Thread nD τ).loc main_arg1)) (64 * (t.val / 17) + y + t.val % 17) (o + l)) (t.val % 17) o ≤ b := by
  refine (dTower_le _ _ _ _ _ _ _).trans (and_congr_right fun _ => and_congr_right fun _ => forall_congr' fun o => ?_)
  rw [pay15_at, row_at, q_at]
  rfl

end Cert.Bokeh

end
-- ==== Proof.Acc.lean ====
/-
  The accumulators after each grid step of a tile, and the two results at an index: sums, and a maximum, over the
  seventeen row shifts and the seventeen column shifts.
-/
module

public import proofs.«01_k».proof.Proof.Blocks

@[expose] public section

set_option maxRecDepth 16384

noncomputable section

namespace Cert.Bokeh

open Cert.KernelIdeal Cert.KernelIdeal.Gen Idealize.ShloMosaic Idealize.ShloMosaic.TcCoe Idealize.SL.Sem
open Cert.KernelIdeal.Value (stAt0 stAt0_A stAt0_B stAt0_C junk0)

/-- What a grid step carries: the two blocks of results and the three accumulators. -/
abbrev St := Vec Ideal S3x64x512 .f32 × Vec Ideal S64x512 .i32 × Vec Ideal S3x64x512 .f32 × Vec Ideal S64x512 .f32 × Vec Ideal S64x512 .f32

variable (m : (ℓ : Loc nD τ sig) → Buf (Elt Ideal) ℓ) (c : Dev nD)

/-- The defocus and the image a device holds. -/
abbrev dfs : S1x1x512x512.Idx → EReal := m ((c : Thread nD τ).loc main_arg1)

@[inherit_doc dfs] abbrev img : S1x3x512x512.Idx → EReal := m ((c : Thread nD τ).loc main_arg0)

/-! ## One step over what the step before left -/

theorem pay1_eq (v : FVec Ideal S64x512 .f32) : k0_pay1 (F := Ideal) v = v := shapeCast_self _ _

theorem st_first0 (t : Fin cfg0.N) (acc : St) (h0 : t.val % 17 = 0) (j : S3x64x512.Idx) :
    (show EReal from (stAt0 m c t.val t.isLt acc).2.2.1 j) = 0 + stepB (grid0.coords t) (iblk m c 0 t) (iblk m c 1 t) (j 0) (ix2 (j 1) (j 2)) := by
  rw [stAt0_A m c t acc h0 (by omega)]
  dsimp only
  rw [soutA0]

theorem st_first1 (t : Fin cfg0.N) (acc : St) (h0 : t.val % 17 = 0) (y : Fin 64) (l : Fin 512) :
    (show EReal from (stAt0 m c t.val t.isLt acc).2.2.2.1 (ix2 y l)) = 0 + stepW (grid0.coords t) (iblk m c 0 t) (ix2 y l) := by
  rw [stAt0_A m c t acc h0 (by omega)]
  dsimp only
  rw [soutA1]
  exact (pay89_at _ _ y l).trans (congrArg (· + _) (pay7_at _))

theorem st_first2 (t : Fin cfg0.N) (acc : St) (h0 : t.val % 17 = 0) (y : Fin 64) (l : Fin 512) :
    (show EReal from (stAt0 m c t.val t.isLt acc).2.2.2.2 (ix2 y l)) = stepD (grid0.coords t) (iblk m c 0 t) (k0_pay9 (F := Ideal)) (ix2 y l) := by
  rw [stAt0_A m c t acc h0 (by omega)]
  dsimp only
  rw [soutA2]
  exact congrFun (pay1_eq _) _

theorem st_next0 (t : Fin cfg0.N) (acc : St) (h0 : ¬t.val % 17 = 0) (j : S3x64x512.Idx) :
    (show EReal from (stAt0 m c t.val t.isLt acc).2.2.1 j)
      = (show EReal from acc.2.2.1 j) + stepB (grid0.coords t) (iblk m c 0 t) (iblk m c 1 t) (j 0) (ix2 (j 1) (j 2)) := by
  by_cases h1 : t.val % 17 = 16
  · rw [stAt0_C m c t acc h0 h1]
    dsimp only
    rw [soutC0]
  · rw [stAt0_B m c t acc h0 h1]
    dsimp only
    rw [soutB0]

theorem st_next1 (t : Fin cfg0.N) (acc : St) (h0 : ¬t.val % 17 = 0) (y : Fin 64) (l : Fin 512) :
    (show EReal from (stAt0 m c t.val t.isLt acc).2.2.2.1 (ix2 y l))
      = (show EReal from acc.2.2.2.1 (ix2 y l)) + stepW (grid0.coords t) (iblk m c 0 t) (ix2 y l) := by
  by_cases h1 : t.val % 17 = 16
  · rw [stAt0_C m c t acc h0 h1]
    dsimp only
    rw [soutC1]
    exact pay89_at _ _ y l
  · rw [stAt0_B m c t acc h0 h1]
    dsimp only
    rw [soutB1]
    exact pay89_at _ _ y l

theorem st_next2 (t : Fin cfg0.N) (acc : St) (h0 : ¬t.val % 17 = 0) (y : Fin 64) (l : Fin 512) :
    (show EReal from (stAt0 m c t.val t.isLt acc).2.2.2.2 (ix2 y l)) = stepD (grid0.coords t) (iblk m c 0 t) acc.2.2.2.2 (ix2 y l) := by
  by_cases h1 : t.val % 17 = 16
  · rw [stAt0_C m c t acc h0 h1]
    dsimp only
    rw [soutC2]
    exact congrFun (pay1_eq _) _
  · rw [stAt0_B m c t acc h0 h1]
    dsimp only
    rw [soutB2]
    exact congrFun (pay1_eq _) _

theorem st_last3 (t : Fin cfg0.N) (acc : St) (h1 : t.val % 17 = 16) (j : S3x64x512.Idx) :
    (show EReal from (stAt0 m c t.val t.isLt acc).1 j)
      = (show EReal from (stAt0 m c t.val t.isLt acc).2.2.1 j) * Ideal.div 1 ((stAt0 m c t.val t.isLt acc).2.2.2.1 (ix2 (j 1) (j 2))) := by
  have e0 := st_next0 m c t acc (by omega) j
  have e1 := st_next1 m c t acc (by omega) (j 1) (j 2)
  refine Eq.trans ?_ (congrArg₂ (· * ·) e0.symm (congrArg (Ideal.div 1) e1.symm))
  rw [stAt0_C m c t acc (by omega) h1]
  dsimp only
  rw [outC3]

theorem pay6_at (v w : Vec Ideal S64x512 .f32) (y : Fin 64) (l : Fin 512) :
    k0_pay6 v w (ix2 y l) = Ideal.fptosi 32 (max (show EReal from v (ix2 y l)) (w (ix2 y l))) := by
  pointwise [k0_pay6]
  rfl

theorem st_last4 (t : Fin cfg0.N) (acc : St) (h1 : t.val % 17 = 16) (y : Fin 64) (l : Fin 512) :
    (stAt0 m c t.val t.isLt acc).2.1 (ix2 y l)
      = Ideal.fptosi 32 (max (show EReal from iblk m c 2 t (ix2 y l)) ((stAt0 m c t.val t.isLt acc).2.2.2.2 (ix2 y l))) := by
  have e2 := st_next2 m c t acc (by omega) y l
  refine Eq.trans ?_ (congrArg (fun z => Ideal.fptosi 32 (max _ z)) e2.symm)
  rw [stAt0_C m c t acc (by omega) h1]
  dsimp only
  rw [outC4]
  exact (pay6_at _ _ y l).trans (congrArg (fun z => Ideal.fptosi 32 (max _ z)) (congrFun (pay1_eq _) _))

/-! ## The accumulators after step `n` -/

/-- A weight of the padded defocus at row `Y + k`, column `X + o`. -/
abbrev wAt (d : S1x1x512x512.Idx → EReal) (Y X k o : ℕ) : EReal := wt (padD d (Y + k) (o + X)) k o

/-- A candidate of the padded defocus at row `Y + k`, column `X + o`. -/
abbrev cAt (d : S1x1x512x512.Idx → EReal) (Y X k o : ℕ) : EReal := cand (padD d (Y + k) (o + X)) k o

/-- The three accumulators hold the sums, and the maximum, over the row shifts of the tile's steps so far. -/
structure Inv (n : ℕ) (S : St) : Prop where
  colours : ∀ (p : Fin 3) (y : Fin 64) (l : Fin 512), (show EReal from S.2.2.1 (ix3 p y l))
    = ∑ k ∈ Finset.range (n % 17 + 1), ∑ o : Fin 17, wAt (dfs m c) (64 * (n / 17) + y) l k o * padI (img m c) p (64 * (n / 17) + y + k) (o + l)
  weights : ∀ (y : Fin 64) (l : Fin 512), (show EReal from S.2.2.2.1 (ix2 y l))
    = ∑ k ∈ Finset.range (n % 17 + 1), ∑ o : Fin 17, wAt (dfs m c) (64 * (n / 17) + y) l k o
  dilated : ∀ (y : Fin 64) (l : Fin 512) (b : EReal), (show EReal from S.2.2.2.2 (ix2 y l)) ≤ b
    ↔ 0 ≤ b ∧ ∀ k < n % 17 + 1, ∀ o : Fin 17, cAt (dfs m c) (64 * (n / 17) + y) l k o ≤ b

theorem inv_step (n : ℕ) (h : n < cfg0.N) (acc : St) (ih : n % 17 ≠ 0 → Inv m c (n - 1) acc) : Inv m c n (stAt0 m c n h acc) := by
  by_cases h0 : n % 17 = 0
  · refine ⟨fun p y l => ?_, fun y l => ?_, fun y l b => ?_⟩
    · refine (st_first0 m c ⟨n, h⟩ acc h0 (ix3 p y l)).trans ((zero_add _).trans ((stepB_at m c ⟨n, h⟩ p y l).trans ?_))
      rw [h0, zero_add, Finset.sum_range_one]
    · refine (st_first1 m c ⟨n, h⟩ acc h0 y l).trans ((zero_add _).trans ((stepW_at m c ⟨n, h⟩ y l).trans ?_))
      rw [h0, zero_add, Finset.sum_range_one]
    · rw [st_first2 m c ⟨n, h⟩ acc h0 y l]
      refine (stepD_le m c ⟨n, h⟩ _ y l b).trans ?_
      have e9 : (show EReal from k0_pay9 (F := Ideal) (ix2 y l)) = 0 := pay9_at _
      rw [e9]
      simp only [h0]
      constructor
      · rintro ⟨_, hb, hc⟩
        refine ⟨hb, fun k hk o => ?_⟩
        obtain rfl : k = 0 := by omega
        exact hc o
      · rintro ⟨hb, hc⟩
        exact ⟨hb, hb, fun o => hc 0 (by omega) o⟩
  · have I := ih h0
    have hd : (n - 1) / 17 = n / 17 := by omega
    have hm : (n - 1) % 17 + 1 = n % 17 := by omega
    refine ⟨fun p y l => ?_, fun y l => ?_, fun y l b => ?_⟩
    · refine (st_next0 m c ⟨n, h⟩ acc h0 (ix3 p y l)).trans ((congrArg₂ (· + ·) (I.colours p y l) (stepB_at m c ⟨n, h⟩ p y l)).trans ?_)
      rw [hd, hm, Finset.sum_range_succ]
    · refine (st_next1 m c ⟨n, h⟩ acc h0 y l).trans ((congrArg₂ (· + ·) (I.weights y l) (stepW_at m c ⟨n, h⟩ y l)).trans ?_)
      rw [hd, hm, Finset.sum_range_succ]
    · rw [st_next2 m c ⟨n, h⟩ acc h0 y l]
      refine (stepD_le m c ⟨n, h⟩ _ y l b).trans ?_
      rw [I.dilated y l b, hd, hm]
      constructor
      · rintro ⟨⟨hb, hp⟩, _, hc⟩
        refine ⟨hb, fun k hk o => ?_⟩
        rcases Nat.lt_succ_iff_lt_or_eq.mp hk with hk | rfl
        · exact hp k hk o
        · exact hc o
      · rintro ⟨hb, hc⟩
        exact ⟨⟨hb, fun k hk o => hc k (by omega) o⟩, hb, fun o => hc (n % 17) (by omega) o⟩

/-- What the steps up to `n` carry. -/
abbrev stN (n : ℕ) (h : 0 + n < cfg0.N) : St := Pipeline.accAt (fun n h => stAt0 m c n h junk0) (stAt0 m c) 0 n h

theorem inv_cast {a b : ℕ} (e : a = b) {S : St} (h : Inv m c a S) : Inv m c b S := e ▸ h

theorem inv_all : ∀ (n : ℕ) (h : 0 + n < cfg0.N), Inv m c n (stN m c n h)
  | 0, h => inv_step m c 0 h _ fun h => absurd rfl h
  | n + 1, h => by
    have e : 0 + (n + 1) = n + 1 := by omega
    have := inv_step m c (0 + (n + 1)) h (stN m c n (Nat.lt_of_succ_lt h)) fun _ => by
      exact inv_cast m c (by omega) (inv_all n (Nat.lt_of_succ_lt h))
    exact inv_cast m c e this

theorem last3 (n : ℕ) (h : 0 + n < cfg0.N) (h1 : n % 17 = 16) (j : S3x64x512.Idx) :
    (show EReal from (stN m c n h).1 j) = (show EReal from (stN m c n h).2.2.1 j) * Ideal.div 1 ((stN m c n h).2.2.2.1 (ix2 (j 1) (j 2))) := by
  match n, h, h1 with
  | n + 1, h, h1 => exact st_last3 m c ⟨0 + (n + 1), h⟩ _ (by show (0 + (n + 1)) % 17 = 16; omega) j

theorem last4 (n : ℕ) (h : 0 + n < cfg0.N) (h1 : n % 17 = 16) (y : Fin 64) (l : Fin 512) :
    (stN m c n h).2.1 (ix2 y l) = Ideal.fptosi 32 (max (show EReal from iblk m c 2 ⟨0 + n, h⟩ (ix2 y l)) ((stN m c n h).2.2.2.2 (ix2 y l))) := by
  match n, h, h1 with
  | n + 1, h, h1 => exact st_last4 m c ⟨0 + (n + 1), h⟩ _ (by show (0 + (n + 1)) % 17 = 16; omega) y l

/-! ## The results -/

/-- The sum of the weights that reach the pixel `(Y, X)`. -/
def kerW (d : S1x1x512x512.Idx → EReal) (Y X : ℕ) : EReal := ∑ k : Fin 17, ∑ o : Fin 17, wAt d Y X k o

/-- The weighted sum of the colours that reach the pixel `(Y, X)`. -/
def kerB (d : S1x1x512x512.Idx → EReal) (u : S1x3x512x512.Idx → EReal) (p : Fin 3) (Y X : ℕ) : EReal :=
  ∑ k : Fin 17, ∑ o : Fin 17, wAt d Y X k o * padI u p (Y + k) (o + X)

/-- The kernel's first result. -/
theorem G3_at (p : Fin 3) (Y X : Fin 512) :
    (show EReal from Value.G3 m c (ix3 p Y X)) = kerB (dfs m c) (img m c) p Y X * Ideal.div 1 (kerW (dfs m c) Y X) := by
  have hp := p.isLt
  have hY := Y.isLt
  have hX := X.isLt
  have er : 8 * ((p : ℕ) / 3 - 0) + 1 * ((Y : ℕ) / 64 - 0) + 1 * ((X : ℕ) / 512 - 0) = (Y : ℕ) / 64 := by omega
  have hN : cfg0.N = 136 := N_0
  have hn : 17 * ((Y : ℕ) / 64) + 16 < cfg0.N := by omega
  have key : ∀ (n : ℕ) (hn' : 17 * n + 16 < cfg0.N), n = (Y : ℕ) / 64 →
      (show EReal from (stN m c (17 * n + 16) (by omega)).1 (Value.loc3Of (ix3 p Y X)))
        = kerB (dfs m c) (img m c) p Y X * Ideal.div 1 (kerW (dfs m c) Y X) := by
    intro n hn' hnY
    have el : Value.loc3Of (ix3 p Y X) = ix3 p (⟨(Y : ℕ) % 64, by omega⟩ : Fin 64) X := by
      funext a
      fin_cases a
      · exact Fin.ext (show (p : ℕ) % 3 = p by omega)
      · rfl
      · exact Fin.ext (show (X : ℕ) % 512 = X by omega)
    have I := inv_all m c (17 * n + 16) (by omega)
    refine (last3 m c _ _ (by omega) _).trans ?_
    rw [el]
    have hd : 64 * ((17 * n + 16) / 17) + (Y : ℕ) % 64 = Y := by omega
    have hm : (17 * n + 16) % 17 + 1 = 17 := by omega
    refine congrArg₂ (· * ·) ((I.colours _ _ _).trans ?_) (congrArg (Ideal.div 1) ((I.weights _ _).trans ?_))
    · rw [hm, Finset.sum_range]
      refine Finset.sum_congr rfl fun k _ => Finset.sum_congr rfl fun o _ => ?_
      show wAt (dfs m c) (64 * ((17 * n + 16) / 17) + (Y : ℕ) % 64) X k o * padI (img m c) p (64 * ((17 * n + 16) / 17) + (Y : ℕ) % 64 + k) (o + X) = _
      rw [hd]
    · rw [hm, Finset.sum_range]
      refine Finset.sum_congr rfl fun k _ => Finset.sum_congr rfl fun o _ => ?_
      show wAt (dfs m c) (64 * ((17 * n + 16) / 17) + (Y : ℕ) % 64) X k o = _
      rw [hd]
  have hpt : Value.pt3Of (ix3 p Y X) < cfg0.N := by
    show 17 * (8 * ((p : ℕ) / 3 - 0) + 1 * ((Y : ℕ) / 64 - 0) + 1 * ((X : ℕ) / 512 - 0)) + 16 < cfg0.N
    rw [er]; exact hn
  unfold Value.G3
  rw [dif_pos hpt]
  exact key _ hpt er

/-- The kernel's second result: the larger of the defocus and the dilated value `D`, where `D` is the least number at least 0 and every
    candidate. -/
theorem G4_at (Y X : Fin 512) : ∃ D : EReal, (∀ b : EReal, D ≤ b ↔ 0 ≤ b ∧ ∀ k o : Fin 17, cAt (dfs m c) Y X k o ≤ b)
    ∧ Value.G4 m c (ix2 Y X) = Ideal.fptosi 32 (max (dfs m c (ix4 0 0 Y X)) D) := by
  have hY := Y.isLt
  have hX := X.isLt
  have er : 1 * ((Y : ℕ) / 64 - 0) + 1 * ((X : ℕ) / 512 - 0) = (Y : ℕ) / 64 := by omega
  have hN : cfg0.N = 136 := N_0
  have key : ∀ (n : ℕ) (hn' : 17 * n + 16 < cfg0.N), n = (Y : ℕ) / 64 →
      ∃ D : EReal, (∀ b : EReal, D ≤ b ↔ 0 ≤ b ∧ ∀ k o : Fin 17, cAt (dfs m c) Y X k o ≤ b)
        ∧ (stN m c (17 * n + 16) (by omega)).2.1 (Value.loc4Of (ix2 Y X)) = Ideal.fptosi 32 (max (dfs m c (ix4 0 0 Y X)) D) := by
    intro n hn' hnY
    have el : Value.loc4Of (ix2 Y X) = ix2 (⟨(Y : ℕ) % 64, by omega⟩ : Fin 64) X := by
      funext a
      fin_cases a
      · rfl
      · exact Fin.ext (show (X : ℕ) % 512 = X by omega)
    have I := inv_all m c (17 * n + 16) (by omega)
    have hd : 64 * ((17 * n + 16) / 17) + (Y : ℕ) % 64 = Y := by omega
    have hm : (17 * n + 16) % 17 + 1 = 17 := by omega
    refine ⟨_, fun b => (I.dilated ⟨(Y : ℕ) % 64, by omega⟩ X b).trans ?_, ?_⟩
    · rw [hm]
      simp only [hd]
      exact and_congr_right fun _ => ⟨fun h k o => h k k.isLt o, fun h k hk o => h ⟨k, hk⟩ o⟩
    · rw [el]
      refine (last4 m c _ _ (by omega) _ _).trans (congrArg (fun z => Ideal.fptosi 32 (max z _)) ?_)
      refine (iblk2 m c _ _ _ (by show 64 * ((0 + (17 * n + 16)) / 17) + (Y : ℕ) % 64 < 512; omega)).trans ((V_v0 m c _ _).trans ?_)
      refine congrArg (fun z => dfs m c (ix4 0 0 z X)) (Fin.ext ?_)
      show 64 * ((0 + (17 * n + 16)) / 17) + (Y : ℕ) % 64 = Y
      omega
  have hpt : Value.pt4Of (ix2 Y X) < cfg0.N := by
    show 17 * (1 * ((Y : ℕ) / 64 - 0) + 1 * ((X : ℕ) / 512 - 0)) + 16 < cfg0.N
    rw [er]; omega
  unfold Value.G4
  rw [dif_pos hpt]
  exact key _ hpt er

end Cert.Bokeh

end
-- ==== Proof.Scatter.lean ====
/-
  The reference's scatters read at one pixel: where an update lands, the sum of the updates landing at a pixel as a sum
  over the 17 x 17 shifts, and the bounds of the largest of them.
-/
module

public import proofs.«01_k».proof.Defs
public import proofs.«01_k».proof.Proof.Gen.ReferenceIdeal.Run
public import Idealize.ShloMosaic.Lib.Pointwise
public import Idealize.ShloMosaic.Lib.Routing.OpsPair
public import Idealize.ShloMosaic.Lib.Routing.Ops

@[expose] public section

set_option maxRecDepth 16384

noncomputable section

namespace Cert.Splat

open Cert.ReferenceIdeal Cert.ReferenceIdeal.Gen Cert.ReferenceIdeal.Value Idealize.ShloMosaic Idealize.ShloMosaic.TcCoe Idealize.SL.Sem

/-! ## Where an update of a vector of scalars lands -/

theorem lands_iff {M N : ℕ} (d : ScatterDims (Routing.shape1 N) (Routing.shape2 M 1) (Routing.shape1 M)) (hi : d.insertedWindowDims = [0])
    (hs : d.scatterDimsToOperandDims = [0]) (hv : d.indexVectorDim = 1) (idx : IVec (Routing.shape2 M 1) 32) (p : Fin M) (q : Fin N) :
    d.resultIdx? (ValueIdx.ix1 p) idx = some (ValueIdx.ix1 q) ↔ (idx (ValueIdx.ix2 p (0 : Fin 1))).toInt = (q.val : ℤ) := by
  have mem : (0 : Fin 1) ∈ d.scatterDimsToOperandDims := by rw [hs]; exact List.mem_singleton_self _
  have w0 : d.window (ValueIdx.ix1 p) 0 = 0 := by
    unfold ScatterDims.window
    refine dif_neg fun h => ?_
    have out : (0 : Fin 1) ∉ d.insertedWindowDims := of_decide_eq_true (List.mem_filter.1 h).2
    rw [hi] at out
    exact out (List.mem_singleton_self _)
  have src : d.siIdx (ValueIdx.ix1 p) ⟨d.scatterDimsToOperandDims.idxOf 0, List.idxOf_lt_length_iff.2 mem⟩ = ValueIdx.ix2 p (0 : Fin 1) := by
    funext b
    refine Fin.ext ?_
    unfold ScatterDims.siIdx
    match b with
    | ⟨0, _⟩ =>
      rw [dif_neg (by rw [hv]; exact Nat.zero_ne_one)]
      have all : ∀ z : Fin 1, (ValueIdx.ix1 p z).val = p.val := fun z => by rw [Subsingleton.elim z 0]
      exact all _
    | ⟨1, _⟩ =>
      rw [dif_pos (by rw [hv])]
      show List.idxOf (0 : Fin 1) d.scatterDimsToOperandDims = 0
      rw [hs]; simp
  have s0 : d.start (ValueIdx.ix1 p) idx 0 = (idx (ValueIdx.ix2 p (0 : Fin 1))).toInt := by
    unfold ScatterDims.start
    rw [dif_pos mem, src]
  rw [Routing.resultIdx?_ix1, s0, w0]
  exact Eq.congr_left (add_zero _)

variable (V0 : Valuation τ sig (Elt Ideal))

/-- The defocus as the reference holds it. -/
abbrev dep : S1x1x512x512.Idx → EReal := V0 (Proc.devRef .tc main_arg1)

/-- The image as the reference holds it. -/
abbrev pic : S1x3x512x512.Idx → EReal := V0 (Proc.devRef .tc main_arg0)

theorem v0_at (y x : Fin 512) : res_main_v0 V0 (ix2 y x) = dep V0 (ix4 0 0 y x) := by
  pointwise [res_main_v0]

theorem v1_at (y x : Fin 512) : res_main_v1 V0 (ix2 y x) = max (dep V0 (ix4 0 0 y x)) (-dep V0 (ix4 0 0 y x)) := by
  pointwise [res_main_v1]
  exact (congrArg (fun z : EReal => max z (-z)) (v0_at V0 y x))

theorem v5_at (a b : Fin 17) (y x : Fin 512) : res_main_v5 V0 (ix4 a b y x) = BitVec.ofNat 32 a - 8#32 := rfl

theorem v8_at (a b : Fin 17) (y x : Fin 512) : res_main_v8 V0 (ix4 a b y x) = BitVec.ofNat 32 b - 8#32 := rfl

theorem v25_at (a b : Fin 17) (y x : Fin 512) : res_main_v25 V0 (ix4 a b y x) = BitVec.ofNat 32 y + (BitVec.ofNat 32 a - 8#32) := rfl

theorem v27_at (a b : Fin 17) (y x : Fin 512) : res_main_v27 V0 (ix4 a b y x) = BitVec.ofNat 32 x + (BitVec.ofNat 32 b - 8#32) := rfl

theorem spread_at {α : Type} (v : S512x512.Idx → α) (a b : Fin 17) (y x : Fin 512) :
    broadcastInDim S17x17x512x512 ![0, 1, 2, 3] bcast_S1x1x512x512_S17x17x512x512_0_1_2_3 (broadcastInDim S1x1x512x512 ![2, 3] bcast_S512x512_S1x1x512x512_2_3 v) (ix4 a b y x) = v (ix2 y x) := by
  pointwise

theorem v10_at (y x : Fin 512) : res_main_v10 V0 (ix2 y x) = Ideal.fptosi 32 (Ideal.liftRound Int.floor (max (dep V0 (ix4 0 0 y x)) (-dep V0 (ix4 0 0 y x)))) := by
  pointwise [res_main_v10]
  exact congrArg (fun z : EReal => Ideal.fptosi 32 (Ideal.liftRound Int.floor z)) (v1_at V0 y x)

/-! ## The target pixel of an update, as a word -/

/-- The target of the pixel `(y, x)` under the shift `(a - 8, b - 8)` is inside the image. -/
def Inb (a b y x : ℕ) : Prop := (8 ≤ y + a ∧ y + a < 520) ∧ 8 ≤ x + b ∧ x + b < 520

instance (a b y x : ℕ) : Decidable (Inb a b y x) := inferInstanceAs (Decidable (_ ∧ _))

theorem shifted_toInt (n a : ℕ) (hn : n < 512) (ha : a < 17) : (BitVec.ofNat 32 n + (BitVec.ofNat 32 a - 8#32)).toInt = (n : ℤ) + a - 8 := by
  have e : (BitVec.ofNat 32 n + (BitVec.ofNat 32 a - 8#32)).toNat = if 8 ≤ n + a then n + a - 8 else n + a + 4294967288 := by
    rw [BitVec.toNat_add, BitVec.toNat_sub, BitVec.toNat_ofNat, BitVec.toNat_ofNat, BitVec.toNat_ofNat]
    split <;> omega
  rw [BitVec.toInt_eq_toNat_cond, e]
  split <;> split <;> omega

theorem andi_ofBool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem v38_at (a b : Fin 17) (y x : Fin 512) : res_main_v38 V0 (ix4 a b y x) = BitVec.ofBool (decide (Inb a b y x)) := by
  pointwise [res_main_v38]
  simp only [WordCmp.cmpi_sge_eq, WordCmp.cmpi_slt_eq]
  rw [v25_at, v27_at]
  rw [shifted_toInt _ _ y.isLt a.isLt, shifted_toInt _ _ x.isLt b.isLt, andi_ofBool, andi_ofBool, andi_ofBool]
  refine congrArg BitVec.ofBool (decide_eq_decide.2 ?_)
  unfold Inb
  simp only [show (0#32 : BitVec 32).toInt = 0 from rfl, show (512#32 : BitVec 32).toInt = 512 from rfl]
  omega

/-- The flat index of the target, the first pixel's when the target is outside the image. -/
def word : IVec S17x17x512x512 32 :=
  select (res_main_v38 V0) (addi (muli (res_main_v25 V0) (broadcastInDim S17x17x512x512 ![] bcast_S_S17x17x512x512 (constantI S_ 32 512#32))) (res_main_v27 V0)) (broadcastInDim S17x17x512x512 ![] bcast_S_S17x17x512x512 (id (constantI S_ 32 0#32)))

theorem word_at (a b : Fin 17) (y x : Fin 512) : (word V0 (ix4 a b y x)).toNat = if Inb a b y x then 512 * ((y : ℕ) + a - 8) + ((x : ℕ) + b - 8) else 0 := by
  have e : word V0 (ix4 a b y x) = Scalar.select (res_main_v38 V0 (ix4 a b y x))
      ((BitVec.ofNat 32 y + (BitVec.ofNat 32 a - 8#32)) * 512#32 + (BitVec.ofNat 32 x + (BitVec.ofNat 32 b - 8#32))) 0#32 := rfl
  have ha := a.isLt
  have hb := b.isLt
  have hy := y.isLt
  have hx := x.isLt
  rw [e, v38_at, WordCmp.select_decide]
  split
  · next h =>
    unfold Inb at h
    simp only [BitVec.toNat_add, BitVec.toNat_sub, BitVec.toNat_mul, BitVec.toNat_ofNat]
    omega
  · rfl

theorem word_lt (i : S17x17x512x512.Idx) : (word V0 i).toNat < 262144 := by
  rw [eq_ix4 i]
  refine (word_at V0 (i 0) (i 1) (i 2) (i 3)).trans_lt ?_
  split
  · next h =>
    unfold Inb at h
    omega
  · omega

/-- The index words of the scatters. -/
def words : IVec S75759616x1 32 :=
  broadcastInDim S75759616x1 ![0] bcast_S75759616_S75759616x1_0 (select (cmpi .slt (res_main_v66 V0) (broadcastInDim S75759616 ![] bcast_S_S75759616 (constantI S_ 32 0#32))) (addi (res_main_v66 V0) (broadcastInDim S75759616 ![] bcast_S_S75759616 (constantI S_ 32 262144#32))) (res_main_v66 V0))

abbrev unflat : S75759616.Idx ≃ S17x17x512x512.Idx := Shape.reshapeEquiv (s := S17x17x512x512) (s' := S75759616) shapeCasts_S17x17x512x512_S75759616

theorem words_at (p : Fin 75759616) : words V0 (ValueIdx.ix2 p (0 : Fin 1)) = word V0 (unflat (ValueIdx.ix1 p)) := by
  unfold words
  refine (Routing.bcCol _ _ p).trans ?_
  exact Routing.wrap_of_lt (word V0 (unflat (ValueIdx.ix1 p))) _ ((word_lt V0 _).trans (by norm_num))

abbrev dims := scatter_S262144_S75759616x1_S75759616_n_0_0_1

theorem lands (j : S75759616.Idx) (q : Fin 262144) : dims.resultIdx? j (words V0) = some (ValueIdx.ix1 q) ↔ (word V0 (unflat j)).toNat = q := by
  obtain ⟨p, rfl⟩ : ∃ p : Fin 75759616, j = ValueIdx.ix1 p := ⟨j 0, ValueIdx.eq_ix1 j⟩
  refine (lands_iff (M := 75759616) (N := 262144) dims rfl rfl rfl (words V0) p q).trans ?_
  rw [words_at]
  have := word_lt V0 (unflat (ValueIdx.ix1 p))
  rw [BitVec.toInt_eq_toNat_of_lt (by omega)]
  exact Nat.cast_inj

/-! ## The sum and the largest of the updates landing at a pixel -/

theorem scatter_sum (z : S262144.Idx → EReal) (U : S17x17x512x512.Idx → EReal) (q : Fin 262144) :
    Ideal.hostScatterAdd dims z (words V0) (shapeCast S75759616 U shapeCasts_S17x17x512x512_S75759616) (ValueIdx.ix1 q)
      = z (ValueIdx.ix1 q) + ∑ i : S17x17x512x512.Idx, if (word V0 i).toNat = q then U i else 0 := by
  unfold Ideal.hostScatterAdd
  refine congrArg (_ + ·) ?_
  rw [Finset.sum_filter]
  refine Fintype.sum_equiv unflat _ _ fun j => ?_
  by_cases h : (word V0 (unflat j)).toNat = q
  · rw [if_pos h, if_pos ((lands V0 j q).2 h)]
    rfl
  · rw [if_neg h, if_neg (mt (lands V0 j q).1 h)]

/-- The source pixel at row `Y + k - 8`, column `X + o - 8` is inside the image. -/
def Src (Y X k o : ℕ) : Prop := (8 ≤ Y + k ∧ Y + k - 8 < 512) ∧ 8 ≤ o + X ∧ o + X - 8 < 512

instance (Y X k o : ℕ) : Decidable (Src Y X k o) := inferInstanceAs (Decidable (_ ∧ _))

theorem pixel_lt (Y X : Fin 512) : 512 * (Y : ℕ) + X < 262144 := by omega

/-- The update of the pixel `(y, x)` under the shift `(a - 8, b - 8)` lands at `(Y, X)`, when its target is inside the image. -/
theorem hit_iff (a b : Fin 17) (y x Y X : Fin 512) :
    (Inb a b y x ∧ (word V0 (ix4 a b y x)).toNat = 512 * (Y : ℕ) + X) ↔ (y : ℕ) + a = Y + 8 ∧ (x : ℕ) + b = X + 8 := by
  have hY := Y.isLt
  have hX := X.isLt
  rw [word_at]
  constructor
  · rintro ⟨h, e⟩
    rw [if_pos h] at e
    unfold Inb at h
    omega
  · rintro ⟨e1, e2⟩
    have h : Inb a b y x := by unfold Inb; omega
    rw [if_pos h]
    exact ⟨h, by omega⟩

/-- A sum over the source pixels of the one landing at `(Y, X)` under the shift `(8 - k, 8 - o)`. -/
theorem sum_one (g : Fin 512 → Fin 512 → EReal) (Y X : Fin 512) (k o : Fin 17) :
    (∑ y : Fin 512, ∑ x : Fin 512, if (y : ℕ) + k.rev = Y + 8 ∧ (x : ℕ) + o.rev = X + 8 then g y x else 0)
      = if h : Src Y X k o then g ⟨Y + k - 8, h.1.2⟩ ⟨o + X - 8, h.2.2⟩ else 0 := by
  have hY := Y.isLt
  have hX := X.isLt
  have hk := k.isLt
  have ho := o.isLt
  split
  · next h =>
    unfold Src at h
    rw [Finset.sum_eq_single_of_mem (⟨Y + k - 8, h.1.2⟩ : Fin 512) (Finset.mem_univ _), Finset.sum_eq_single_of_mem (⟨o + X - 8, h.2.2⟩ : Fin 512) (Finset.mem_univ _)]
    · rw [if_pos]
      rw [Fin.val_rev, Fin.val_rev]
      dsimp only
      omega
    · intro x _ hx
      rw [if_neg]
      rintro ⟨_, e⟩
      refine hx (Fin.ext ?_)
      rw [Fin.val_rev] at e
      show (x : ℕ) = o + X - 8
      omega
    · intro y _ hy
      refine Finset.sum_eq_zero fun x _ => ?_
      rw [if_neg]
      rintro ⟨e, _⟩
      refine hy (Fin.ext ?_)
      rw [Fin.val_rev] at e
      show (y : ℕ) = Y + k - 8
      omega
  · next h =>
    refine Finset.sum_eq_zero fun y _ => Finset.sum_eq_zero fun x _ => ?_
    rw [if_neg]
    rintro ⟨e1, e2⟩
    refine h ?_
    have hy := y.isLt
    have hx := x.isLt
    rw [Fin.val_rev] at e1 e2
    unfold Src
    omega

/-- The sum of the updates landing at `(Y, X)`, over the shifts. -/
theorem scatter_sum_at (U : S17x17x512x512.Idx → EReal) (f : Fin 17 → Fin 17 → Fin 512 → Fin 512 → EReal)
    (hU : ∀ a b y x, U (ix4 a b y x) = if Inb a b y x then f a b y x else 0) (Y X : Fin 512) :
    (∑ i : S17x17x512x512.Idx, if (word V0 i).toNat = 512 * (Y : ℕ) + X then U i else 0)
      = ∑ k : Fin 17, ∑ o : Fin 17, if h : Src Y X k o then f k.rev o.rev ⟨Y + k - 8, h.1.2⟩ ⟨o + X - 8, h.2.2⟩ else 0 := by
  rw [sum_idx4]
  refine (Equiv.sum_comp Fin.revPerm _).symm.trans (Finset.sum_congr rfl fun k _ => ?_)
  refine (Equiv.sum_comp Fin.revPerm _).symm.trans (Finset.sum_congr rfl fun o _ => ?_)
  refine Eq.trans (Finset.sum_congr rfl fun y _ => Finset.sum_congr rfl fun x _ => ?_) (sum_one (f k.rev o.rev) Y X k o)
  show (if (word V0 (ix4 k.rev o.rev y x)).toNat = 512 * (Y : ℕ) + X then U (ix4 k.rev o.rev y x) else 0) = _
  have hit := hit_iff V0 k.rev o.rev y x Y X
  rw [hU]
  by_cases h : Inb k.rev o.rev y x
  · by_cases e : (word V0 (ix4 k.rev o.rev y x)).toNat = 512 * (Y : ℕ) + X
    · rw [if_pos e, if_pos h, if_pos (hit.1 ⟨h, e⟩)]
    · rw [if_neg e, if_neg fun q => e (hit.2 q).2]
  · rw [if_neg h, ite_self, if_neg fun q => h (hit.2 q).1]

/-- A word, read signed, as an extended real. -/
abbrev num (w : BitVec 32) : EReal := ((w.toInt : ℝ) : EReal)

theorem num_max (v w : BitVec 32) (b : EReal) : num (IntOp.maxsi v w) ≤ b ↔ num v ≤ b ∧ num w ≤ b := by
  have le : ∀ p q : BitVec 32, p.toInt ≤ q.toInt → num p ≤ num q := fun p q h => by
    show ((p.toInt : ℝ) : EReal) ≤ ((q.toInt : ℝ) : EReal)
    exact_mod_cast h
  unfold IntOp.maxsi
  by_cases h : w.toInt < v.toInt
  · rw [if_pos (by simpa [BitVec.slt] using h)]
    exact ⟨fun l => ⟨l, (le w v h.le).trans l⟩, And.left⟩
  · rw [if_neg (by simpa [BitVec.slt] using h)]
    exact ⟨fun l => ⟨(le v w (not_lt.1 h)).trans l, l⟩, And.right⟩

theorem fold_max (l : List (Fin S75759616.numel)) (hit : Fin S75759616.numel → Prop) [DecidablePred hit] (u : Fin S75759616.numel → BitVec 32) (z : BitVec 32) (b : EReal) :
    num (l.foldl (fun a n => if hit n then IntOp.maxsi a (u n) else a) z) ≤ b ↔ num z ≤ b ∧ ∀ n ∈ l, hit n → num (u n) ≤ b := by
  induction l generalizing z with
  | nil => simp
  | cons n l ih =>
    rw [List.foldl_cons, ih]
    by_cases h : hit n
    · rw [if_pos h, num_max]
      simp only [List.mem_cons, forall_eq_or_imp, h, true_imp_iff, and_assoc]
    · rw [if_neg h]
      simp only [List.mem_cons, forall_eq_or_imp, h, false_imp_iff, true_and]

theorem scatter_max (z : IVec S262144 32) (U : IVec S17x17x512x512 32) (q : Fin 262144) (b : EReal) :
    num (Host.scatter dims IntOp.maxsi z (words V0) (shapeCast S75759616 U shapeCasts_S17x17x512x512_S75759616) (ValueIdx.ix1 q)) ≤ b
      ↔ num (z (ValueIdx.ix1 q)) ≤ b ∧ ∀ i : S17x17x512x512.Idx, (word V0 i).toNat = q → num (U i) ≤ b := by
  rw [Routing.scatter_at]
  refine (fold_max _ _ _ _ b).trans (and_congr_right fun _ => ?_)
  constructor
  · intro h i e
    have := h (S75759616.rowMajor (unflat.symm i)) (List.mem_finRange _)
    rw [Equiv.symm_apply_apply, lands] at this
    simpa [shapeCast] using this (by simpa using e)
  · intro h n _ e
    exact h _ ((lands V0 _ q).1 e)

/-- The bounds of the largest of the updates landing at `(Y, X)`, over the shifts. -/
theorem scatter_max_at (U : IVec S17x17x512x512 32) (f : Fin 17 → Fin 17 → Fin 512 → Fin 512 → BitVec 32)
    (hU : ∀ a b y x, U (ix4 a b y x) = if Inb a b y x then f a b y x else 0#32) (Y X : Fin 512) (b : EReal) :
    (num 0#32 ≤ b ∧ ∀ i : S17x17x512x512.Idx, (word V0 i).toNat = 512 * (Y : ℕ) + X → num (U i) ≤ b)
      ↔ 0 ≤ b ∧ ∀ k o : Fin 17, ∀ h : Src Y X k o, num (f k.rev o.rev ⟨Y + k - 8, h.1.2⟩ ⟨o + X - 8, h.2.2⟩) ≤ b := by
  have hY := Y.isLt
  have hX := X.isLt
  have z0 : num 0#32 = 0 := by simp [num]
  rw [z0]
  refine and_congr_right fun hb => ⟨fun H k o h => ?_, fun H i e => ?_⟩
  · have hk := k.isLt
    have ho := o.isLt
    have hs := h
    unfold Src at hs
    have hit := (hit_iff V0 k.rev o.rev ⟨Y + k - 8, h.1.2⟩ ⟨o + X - 8, h.2.2⟩ Y X).2 (by
      rw [Fin.val_rev, Fin.val_rev]
      dsimp only
      omega)
    have := H _ hit.2
    rw [hU, if_pos hit.1] at this
    exact this
  · obtain ⟨a, c, y, x, rfl⟩ : ∃ (a c : Fin 17) (y x : Fin 512), i = ix4 a c y x := ⟨i 0, i 1, i 2, i 3, eq_ix4 i⟩
    rw [hU]
    split
    · next hin =>
      have hit := (hit_iff V0 a c y x Y X).1 ⟨hin, e⟩
      have ha := a.isLt
      have hc := c.isLt
      have hy := y.isLt
      have hx := x.isLt
      have h : Src Y X a.rev c.rev := by
        unfold Src
        rw [Fin.val_rev, Fin.val_rev]
        omega
      have := H a.rev c.rev h
      rw [Fin.rev_rev, Fin.rev_rev] at this
      have ey : (⟨Y + a.rev - 8, h.1.2⟩ : Fin 512) = y := Fin.ext (show (Y : ℕ) + a.rev - 8 = y by have := Fin.val_rev a; omega)
      have ex : (⟨c.rev + X - 8, h.2.2⟩ : Fin 512) = x := Fin.ext (show (c.rev : ℕ) + X - 8 = x by have := Fin.val_rev c; omega)
      rw [ey, ex] at this
      exact this
    · rw [z0]; exact hb

end Cert.Splat
end
-- ==== Proof.Weight.lean ====
/-
  The two programs' weights of one pixel: the kernel's power of two is the reference's hyperbolic tangent.
-/
module

public import proofs.«01_k».proof.Proof.Blocks
public import Mathlib.Analysis.SpecialFunctions.Trigonometric.DerivHyp

@[expose] public section

set_option maxRecDepth 16384

noncomputable section

namespace Cert.Bokeh

open Cert.KernelIdeal Idealize.ShloMosaic

/-! ## The constants -/

/-- 8 / log 2. -/
def steep : ℝ := 8 * (Real.log 2)⁻¹

theorem named_steep : Named.named (F := Ideal) κ (φ := .f32) "steep" 0x4138AA3B#32 = ((steep : ℝ) : EReal) := rfl

theorem named_steep_neg : Named.named (F := Ideal) κ (φ := .f32) "steep_neg" 0xC138AA3B#32 = ((-steep : ℝ) : EReal) := rfl

theorem eps_val : ∃ e : ℝ, 0 < e ∧ Ideal.ofBits .f32 0x3E4CCCCD#32 = (e : EReal) := by
  refine ⟨13421773 / 67108864, by norm_num, ?_⟩
  simp [Ideal.ofBits, Ideal.ieee]
  rw [← EReal.coe_mul]
  norm_num

theorem half_val : Ideal.ofBits .f32 0x3F000000#32 = ((1 / 2 : ℝ) : EReal) := by
  simp [Ideal.ofBits, Ideal.ieee]
  rw [← EReal.coe_mul]
  norm_num

theorem four_val : Ideal.ofBits .f32 0x40800000#32 = ((4 : ℝ) : EReal) := by
  simp [Ideal.ofBits, Ideal.ieee]
  rw [← EReal.coe_mul]
  norm_num

theorem limit_val : Ideal.ofBits .f32 0x4EFFFFFF#32 = ((2147483520 : ℝ) : EReal) := by
  simp [Ideal.ofBits, Ideal.ieee]
  rw [← EReal.coe_pow, ← EReal.coe_mul]
  norm_num

/-! ## The weights -/

/-- The reference's weight of a pixel of defocus `r` at the squared distance `q`. -/
def tw (r q : EReal) : EReal :=
  Ideal.div (Ideal.ofBits .f32 0x3F000000#32 + Ideal.ofBits .f32 0x3F000000#32 * Ideal.tanh (Ideal.ofBits .f32 0x40800000#32 * (r - Ideal.sqrt q)))
    (r * r + Ideal.ofBits .f32 0x3E4CCCCD#32)

theorem dsq_nonneg (k o : ℕ) : 0 ≤ dsq k o := by unfold dsq; positivity

theorem sqrt_dsq (k o : ℕ) : Ideal.sqrt (dsq k o : EReal) = ((Real.sqrt (dsq k o) : ℝ) : EReal) := by
  rw [Ideal.sqrt_coe, if_neg (not_lt.2 (dsq_nonneg k o))]

/-- A power of two with the exponent scaled by `8 / log 2` is an exponential. -/
theorem rpow_steep (r s : ℝ) : Real.rpow 2 (r * -steep + steep * s) = Real.exp (8 * (s - r)) := by
  have h2 : Real.log 2 ≠ 0 := (Real.log_pos (by norm_num)).ne'
  show (2 : ℝ) ^ (r * -steep + steep * s) = _
  rw [Real.rpow_def_of_pos (by norm_num)]
  congr 1
  unfold steep
  field_simp
  ring

/-- The two shapes of the weight, over the reals. -/
theorem weight_real (r s v : ℝ) (hv : 0 < v) : 1 / (Real.exp (8 * (s - r)) * v + v) = (1 / 2 + 1 / 2 * Real.tanh (4 * (r - s))) / v := by
  have hp := Real.exp_pos (4 * (r - s))
  have e : Real.exp (8 * (s - r)) = (Real.exp (4 * (r - s)))⁻¹ * (Real.exp (4 * (r - s)))⁻¹ := by
    rw [← Real.exp_neg, ← Real.exp_add]
    congr 1
    ring
  rw [e, Real.tanh_eq_sinh_div_cosh, Real.sinh_eq, Real.cosh_eq, Real.exp_neg]
  generalize Real.exp (4 * (r - s)) = p at hp
  have h1 : p + p⁻¹ ≠ 0 := by positivity
  field_simp
  ring

/-- The kernel's weight of a real defocus is a positive real, and the reference's. -/
theorem wt_real (r : ℝ) (k o : ℕ) : ∃ w : ℝ, 0 < w ∧ wt (r : EReal) k o = (w : EReal) ∧ tw (r : EReal) (dsq k o : EReal) = (w : EReal) := by
  obtain ⟨e, he, hb⟩ := eps_val
  have hv : 0 < r * r + e := add_pos_of_nonneg_of_pos (mul_self_nonneg r) he
  have hd := add_pos (mul_pos (Real.exp_pos (8 * (Real.sqrt (dsq k o) - r))) hv) hv
  refine ⟨1 / (Real.exp (8 * (Real.sqrt (dsq k o) - r)) * (r * r + e) + (r * r + e)), one_div_pos.2 hd, ?_, ?_⟩
  · unfold wt kw
    rw [named_steep, named_steep_neg, hb, sqrt_dsq, ← EReal.coe_mul, ← EReal.coe_mul, ← EReal.coe_mul, ← EReal.coe_add, ← EReal.coe_add, Ideal.exp2_coe,
      rpow_steep, ← EReal.coe_mul, ← EReal.coe_add, Ideal.div_coe hd.ne', one_mul]
  · unfold tw
    rw [half_val, four_val, hb, sqrt_dsq, ← EReal.coe_sub, ← EReal.coe_mul, Ideal.tanh_coe, ← EReal.coe_mul, ← EReal.coe_add, ← EReal.coe_mul, ← EReal.coe_add,
      Ideal.div_coe hv.ne', ← EReal.coe_mul, weight_real _ _ _ hv, mul_one_div]

theorem wt_bot (k o : ℕ) : wt ⊥ k o = 0 := by
  obtain ⟨e, he, hb⟩ := eps_val
  have hs : 0 < steep := mul_pos (by norm_num) (inv_pos.2 (Real.log_pos (by norm_num)))
  unfold wt kw
  rw [named_steep, named_steep_neg, hb, sqrt_dsq, EReal.bot_mul_bot, EReal.top_add_coe, EReal.bot_mul_coe_of_neg (by linarith), ← EReal.coe_mul,
    EReal.top_add_coe, Ideal.exp2_top, EReal.top_mul_top, EReal.top_add_top]
  unfold Ideal.div
  simp

theorem cand_bot (k o : ℕ) : cand ⊥ k o = 0 := by
  unfold cand kd
  rw [sqrt_dsq, if_neg (by simp)]

end Cert.Bokeh

end
-- ==== Proof.RefValue.lean ====
/-
  The reference's two results at one pixel, under the precondition, in the terms the kernel's results are stated in.
-/
module

public import proofs.«01_k».proof.Proof.Scatter
public import proofs.«01_k».proof.Proof.Weight
public import proofs.«01_k».proof.Proof.Acc

@[expose] public section

set_option maxRecDepth 16384

noncomputable section

namespace Cert.Splat

open Cert.ReferenceIdeal Cert.ReferenceIdeal.Gen Cert.ReferenceIdeal.Value Idealize.ShloMosaic Idealize.ShloMosaic.TcCoe Idealize.SL.Sem Cert.Bokeh

/-- Every defocus is a real number between 0 and the largest float below 2^31. -/
def Good (d : S1x1x512x512.Idx → EReal) : Prop := ∀ i, ∃ r : ℝ, (0 ≤ r ∧ r ≤ 2147483520) ∧ d i = (r : EReal)

variable (V0 : Valuation τ sig (Elt Ideal))

/-! ## The values at an update -/

theorem dsq_rev (k o : Fin 17) : dsq (k.rev : Fin 17) (o.rev : Fin 17) = dsq k o := by
  have h : ∀ k : Fin 17, (((k.rev : Fin 17) : ℕ) : ℝ) = 16 - (k : ℕ) := fun k => by
    have := Fin.val_rev k
    have e : ((k.rev : Fin 17) : ℕ) + (k : ℕ) = 16 := by omega
    have : (((k.rev : Fin 17) : ℕ) : ℝ) + ((k : ℕ) : ℝ) = 16 := by exact_mod_cast e
    linarith
  unfold dsq
  rw [h, h]
  ring

theorem v44_at (a b : Fin 17) (y x : Fin 512) : res_main_v44 V0 (ix4 a b y x) = Ideal.sqrt ((dsq a b : ℝ) : EReal) := by
  have sq : ∀ a : Fin 17, (IntOp.muli (BitVec.ofNat 32 a - 8#32) (BitVec.ofNat 32 a - 8#32)).toInt = ((a : ℕ) - 8 : ℤ) ^ 2 := by decide
  pointwise [res_main_v44]
  rw [v5_at, v8_at]
  refine congrArg Ideal.sqrt ?_
  show ((_ : ℝ) : EReal) + ((_ : ℝ) : EReal) = _
  rw [sq, sq, ← EReal.coe_add]
  push_cast
  rfl

theorem zero_val : Ideal.ofBits .f32 0#32 = 0 := by
  simp [Ideal.ofBits, Ideal.ieee]

theorem v61_at (a b : Fin 17) (y x : Fin 512) : res_main_v61 V0 (ix4 a b y x)
    = if Inb a b y x then tw (max (dep V0 (ix4 0 0 y x)) (-dep V0 (ix4 0 0 y x))) (dsq a b : EReal) else 0 := by
  pointwise [res_main_v61]
  rw [v38_at, v44_at, v1_at, WordCmp.select_decide]
  split
  · rfl
  · exact zero_val

theorem real_abs (r : ℝ) (h : 0 ≤ r) : max (r : EReal) (-(r : EReal)) = r := by
  rw [← EReal.coe_neg]
  exact max_eq_left (EReal.coe_le_coe_iff.2 (by linarith))

/-- The candidate of the pixel `(y, x)` under the shift `(a - 8, b - 8)`. -/
def pick (a b : Fin 17) (y x : Fin 512) : BitVec 32 :=
  if Ideal.sqrt (dsq a b : EReal) ≤ dep V0 (ix4 0 0 y x) then Ideal.fptosi 32 (dep V0 (ix4 0 0 y x)) else 0#32

theorem fptosi_real (r : ℝ) (h0 : 0 ≤ r) (h1 : r ≤ 2147483520) : (Ideal.fptosi 32 (r : EReal)).toInt = ⌊r⌋ := by
  have f0 : 0 ≤ ⌊r⌋ := Int.floor_nonneg.2 h0
  have f1 : ⌊r⌋ ≤ 2147483520 := Int.floor_le_iff.2 (by push_cast; linarith)
  unfold Ideal.fptosi
  rw [Ideal.toIntClamped_coe, if_pos h0, BitVec.toInt_ofInt]
  norm_num
  rw [min_eq_right (by omega), max_eq_right (by omega)]
  exact Int.bmod_eq_of_le (by omega) (by omega)

/-- The updates of the dilation. -/
def dilU : IVec S17x17x512x512 32 :=
  select (andi (andi (andi (cmpi .sle (absi (res_main_v5 V0)) (broadcastInDim S17x17x512x512 ![0, 1, 2, 3] bcast_S1x1x512x512_S17x17x512x512_0_1_2_3 (broadcastInDim S1x1x512x512 ![2, 3] bcast_S512x512_S1x1x512x512_2_3 (addi (res_main_v10 V0) (broadcastInDim S512x512 ![] bcast_S_S512x512 (constantI S_ 32 1#32)))))) (cmpi .sle (absi (res_main_v8 V0)) (broadcastInDim S17x17x512x512 ![0, 1, 2, 3] bcast_S1x1x512x512_S17x17x512x512_0_1_2_3 (broadcastInDim S1x1x512x512 ![2, 3] bcast_S512x512_S1x1x512x512_2_3 (addi (res_main_v10 V0) (broadcastInDim S512x512 ![] bcast_S_S512x512 (constantI S_ 32 1#32))))))) (res_main_v38 V0)) (cmpf .oge (broadcastInDim S17x17x512x512 ![0, 1, 2, 3] bcast_S1x1x512x512_S17x17x512x512_0_1_2_3 (broadcastInDim S1x1x512x512 ![2, 3] bcast_S512x512_S1x1x512x512_2_3 (res_main_v1 V0))) (res_main_v44 V0))) (broadcastInDim S17x17x512x512 ![2, 3] bcast_S512x512_S17x17x512x512_2_3 (fptosi 32 (res_main_v0 V0))) (broadcastInDim S17x17x512x512 ![] bcast_S_S17x17x512x512 (id (constantI S_ 32 0#32)))

/-- A shift no longer than `r` is inside the window of `r`. -/
theorem window (r s : ℝ) (h0 : 0 ≤ r) (h1 : r ≤ 2147483520) (a : Fin 17) (h : Real.sqrt (((a : ℕ) - 8 : ℝ) ^ 2 + s) ≤ r) (hs : 0 ≤ s) :
    (IntOp.absi (BitVec.ofNat 32 a - 8#32)).toInt ≤ (IntOp.addi (Ideal.fptosi 32 (Ideal.liftRound Int.floor (r : EReal))) 1#32).toInt := by
  have ab : ∀ a : Fin 17, (IntOp.absi (BitVec.ofNat 32 a - 8#32)).toInt = |((a : ℕ) - 8 : ℤ)| := by decide
  have f0 : 0 ≤ ⌊r⌋ := Int.floor_nonneg.2 h0
  have f1 : ⌊r⌋ ≤ 2147483520 := Int.floor_le_iff.2 (by push_cast; linarith)
  have e : (Ideal.fptosi 32 (Ideal.liftRound Int.floor (r : EReal))).toInt = ⌊r⌋ := by
    rw [Ideal.liftRound_coe]
    refine (fptosi_real _ (by exact_mod_cast f0) (by exact_mod_cast f1)).trans (Int.floor_intCast _)
  have e1 : (IntOp.addi (Ideal.fptosi 32 (Ideal.liftRound Int.floor (r : EReal))) 1#32).toInt = ⌊r⌋ + 1 := by
    unfold IntOp.addi
    rw [BitVec.toInt_add, e]
    exact Int.bmod_eq_of_le (by norm_num; omega) (by norm_num; omega)
  rw [ab, e1]
  have l : |((a : ℕ) - 8 : ℝ)| ≤ r := (Real.abs_le_sqrt (by linarith)).trans h
  have : |((a : ℕ) - 8 : ℤ)| ≤ ⌊r⌋ := Int.le_floor.2 (by push_cast; exact l)
  omega

theorem dilU_at (hd : Good (dep V0)) (a b : Fin 17) (y x : Fin 512) : dilU V0 (ix4 a b y x) = if Inb a b y x then pick V0 a b y x else 0#32 := by
  obtain ⟨r, ⟨h0, h1⟩, hr⟩ := hd (ix4 0 0 y x)
  pointwise [dilU]
  rw [v38_at, v44_at, v1_at, v5_at, v8_at, v10_at, v0_at, WordCmp.cmpi_sle_eq, WordCmp.cmpi_sle_eq]
  unfold pick
  rw [hr, real_abs r h0]
  rw [andi_ofBool, andi_ofBool, andi_ofBool, WordCmp.select_decide]
  by_cases hin : Inb a b y x
  · rw [if_pos hin]
    by_cases hs : Ideal.sqrt (dsq a b : EReal) ≤ (r : EReal)
    · have hs' := hs
      rw [sqrt_dsq, EReal.coe_le_coe_iff] at hs'
      rw [if_pos hs, if_pos ⟨⟨⟨window r _ h0 h1 a hs' (sq_nonneg _), window r _ h0 h1 b (by rw [add_comm]; exact hs') (sq_nonneg _)⟩, hin⟩, hs⟩]
      rfl
    · rw [if_neg hs, if_neg fun h => hs h.2]
      rfl
  · rw [if_neg hin, if_neg fun h => hin h.1.2]
    rfl

/-! ## The sums -/

abbrev zeros : FVec Ideal S262144 .f32 := broadcastInDim S262144 ![] bcast_S_S262144 (constant S_ .f32 0x00000000#32)

/-- The number of a pixel. -/
abbrev flat (Y X : Fin 512) : Fin 262144 := ⟨(Y : ℕ) * 512 + X, by omega⟩

theorem padD_src (d : S1x1x512x512.Idx → EReal) (Y X k o : ℕ) (h : Src Y X k o) :
    padD d (Y + k) (o + X) = d (ix4 0 0 ⟨Y + k - 8, h.1.2⟩ ⟨o + X - 8, h.2.2⟩) := dif_pos h

theorem padD_out (d : S1x1x512x512.Idx → EReal) (Y X k o : ℕ) (h : ¬Src Y X k o) : padD d (Y + k) (o + X) = ⊥ := dif_neg h

theorem padI_src (u : S1x3x512x512.Idx → EReal) (p : Fin 3) (Y X k o : ℕ) (h : Src Y X k o) :
    padI u p (Y + k) (o + X) = u (ix4 0 p ⟨Y + k - 8, h.1.2⟩ ⟨o + X - 8, h.2.2⟩) := dif_pos h

theorem padI_out (u : S1x3x512x512.Idx → EReal) (p : Fin 3) (Y X k o : ℕ) (h : ¬Src Y X k o) : padI u p (Y + k) (o + X) = 0 := dif_neg h

theorem wAt_src (hd : Good (dep V0)) (Y X : Fin 512) (k o : Fin 17) :
    (if h : Src Y X k o then tw (max (dep V0 (ix4 0 0 ⟨Y + k - 8, h.1.2⟩ ⟨o + X - 8, h.2.2⟩)) (-dep V0 (ix4 0 0 ⟨Y + k - 8, h.1.2⟩ ⟨o + X - 8, h.2.2⟩)))
      (dsq (k.rev : Fin 17) (o.rev : Fin 17) : EReal) else 0) = wAt (dep V0) Y X k o := by
  by_cases h : Src Y X k o
  · obtain ⟨r, ⟨h0, h1⟩, hr⟩ := hd (ix4 0 0 ⟨Y + k - 8, h.1.2⟩ ⟨o + X - 8, h.2.2⟩)
    obtain ⟨w, -, e1, e2⟩ := wt_real r k o
    rw [dif_pos h, wAt, padD_src _ _ _ _ _ h, hr, real_abs r h0, dsq_rev, e1, e2]
  · rw [dif_neg h, wAt, padD_out _ _ _ _ _ h, wt_bot]

theorem wAt_nonneg (hd : Good (dep V0)) (Y X : ℕ) (k o : Fin 17) : 0 ≤ wAt (dep V0) Y X k o := by
  by_cases h : Src Y X k o
  · obtain ⟨r, ⟨h0, h1⟩, hr⟩ := hd (ix4 0 0 ⟨Y + k - 8, h.1.2⟩ ⟨o + X - 8, h.2.2⟩)
    obtain ⟨w, hw, e1, -⟩ := wt_real r k o
    rw [wAt, padD_src _ _ _ _ _ h, hr, e1]
    exact EReal.coe_nonneg.2 hw.le
  · rw [wAt, padD_out _ _ _ _ _ h, wt_bot]

theorem kerW_ne (hd : Good (dep V0)) (Y X : Fin 512) : kerW (dep V0) Y X ≠ 0 := by
  have hY := Y.isLt
  have hX := X.isLt
  have own : 0 < wAt (dep V0) Y X (8 : Fin 17) (8 : Fin 17) := by
    have h : Src Y X (8 : Fin 17) (8 : Fin 17) := by
      unfold Src
      show (8 ≤ (Y : ℕ) + 8 ∧ (Y : ℕ) + 8 - 8 < 512) ∧ 8 ≤ 8 + (X : ℕ) ∧ 8 + (X : ℕ) - 8 < 512
      omega
    obtain ⟨r, ⟨h0, h1⟩, hr⟩ := hd (ix4 0 0 ⟨Y + (8 : Fin 17) - 8, h.1.2⟩ ⟨(8 : Fin 17) + X - 8, h.2.2⟩)
    obtain ⟨w, hw, e1, -⟩ := wt_real r (8 : Fin 17) (8 : Fin 17)
    rw [wAt, padD_src _ _ _ _ _ h, hr, e1]
    exact EReal.coe_pos.2 hw
  refine (own.trans_le ?_).ne'
  unfold kerW
  refine le_trans ?_ (Finset.single_le_sum (f := fun k : Fin 17 => ∑ o : Fin 17, wAt (dep V0) Y X k o)
    (fun k _ => Finset.sum_nonneg fun o _ => wAt_nonneg V0 hd Y X k o) (Finset.mem_univ (8 : Fin 17)))
  exact Finset.single_le_sum (f := fun o : Fin 17 => wAt (dep V0) Y X (8 : Fin 17) o) (fun o _ => wAt_nonneg V0 hd Y X 8 o) (Finset.mem_univ (8 : Fin 17))

/-- A scattered sum at a pixel. -/
theorem sum_at (U : Vec Ideal S17x17x512x512 .f32) (f : Fin 17 → Fin 17 → Fin 512 → Fin 512 → EReal)
    (hU : ∀ a b y x, U (ix4 a b y x) = if Inb a b y x then f a b y x else 0) (Y X : Fin 512) :
    (Host.scatterAdd (F := Ideal) (φ := .f32) dims zeros (words V0) (shapeCast S75759616 U shapeCasts_S17x17x512x512_S75759616) (ValueIdx.ix1 (flat Y X)))
      = (∑ k : Fin 17, ∑ o : Fin 17, if h : Src Y X k o then f k.rev o.rev ⟨Y + k - 8, h.1.2⟩ ⟨o + X - 8, h.2.2⟩ else 0 : EReal) := by
  rw [Host.scatterAdd, Ideal.hostScatterAdd_def, scatter_sum V0 zeros U (flat Y X)]
  have z : zeros (ValueIdx.ix1 (flat Y X)) = (0 : EReal) := by
    pointwise [zeros]
  rw [z, zero_add, ← scatter_sum_at V0 U f hU Y X]
  have e : ((flat Y X : Fin 262144) : ℕ) = 512 * (Y : ℕ) + X := by
    show (Y : ℕ) * 512 + X = _
    omega
  rw [e]

theorem sumW_at (hd : Good (dep V0)) (Y X : Fin 512) :
    (Host.scatterAdd (F := Ideal) (φ := .f32) dims zeros (words V0) (shapeCast S75759616 (res_main_v61 V0) shapeCasts_S17x17x512x512_S75759616) (ValueIdx.ix1 (flat Y X)))
      = kerW (dep V0) Y X := by
  refine (sum_at V0 _ _ (v61_at V0) Y X).trans ?_
  unfold kerW
  exact Finset.sum_congr rfl fun k _ => Finset.sum_congr rfl fun o _ => wAt_src V0 hd Y X k o

theorem sumB_at (hd : Good (dep V0)) (p : Fin 3) (U : Vec Ideal S17x17x512x512 .f32)
    (hU : ∀ a b y x, U (ix4 a b y x) = if Inb a b y x then tw (max (dep V0 (ix4 0 0 y x)) (-dep V0 (ix4 0 0 y x))) (dsq a b : EReal) * pic V0 (ix4 0 p y x) else 0) (Y X : Fin 512) :
    (Host.scatterAdd (F := Ideal) (φ := .f32) dims zeros (words V0) (shapeCast S75759616 U shapeCasts_S17x17x512x512_S75759616) (ValueIdx.ix1 (flat Y X)))
      = kerB (dep V0) (pic V0) p Y X := by
  refine (sum_at V0 U (fun a b y x => tw (max (dep V0 (ix4 0 0 y x)) (-dep V0 (ix4 0 0 y x))) (dsq a b : EReal) * pic V0 (ix4 0 p y x)) hU Y X).trans ?_
  unfold kerB
  refine Finset.sum_congr rfl fun k _ => Finset.sum_congr rfl fun o _ => ?_
  rw [← wAt_src V0 hd Y X k o]
  by_cases h : Src Y X k o
  · rw [dif_pos h, dif_pos h, padI_src _ _ _ _ _ _ h]
  · rw [dif_neg h, dif_neg h, zero_mul]

/-! ## The results -/

/-- The quotient of three planes by a fourth. -/
def quot (B0 B1 B2 Wt : FVec Ideal S262144 .f32) : FVec Ideal S3x512x512 .f32 :=
  Host.divf (shapeCast _ ((concatenate S3x262144 0 [⟨S1x262144, ((broadcastInDim S1x262144 ![1] bcast_S262144_S1x262144_1 B0) : (⟨S1x262144, .f32⟩ : BufTy).Contents (Elt Ideal))⟩, ⟨S1x262144, ((broadcastInDim S1x262144 ![1] bcast_S262144_S1x262144_1 B1) : (⟨S1x262144, .f32⟩ : BufTy).Contents (Elt Ideal))⟩, ⟨S1x262144, ((broadcastInDim S1x262144 ![1] bcast_S262144_S1x262144_1 B2) : (⟨S1x262144, .f32⟩ : BufTy).Contents (Elt Ideal))⟩] concatenates_S1x262144_S1x262144_S1x262144_S3x262144_d0) : (⟨S3x262144, .f32⟩ : BufTy).Contents (Elt Ideal)) shapeCasts_S3x262144_S3x512x512) (broadcastInDim S3x512x512 ![0, 1, 2] bcast_S1x512x512_S3x512x512_0_1_2 (shapeCast _ Wt shapeCasts_S262144_S1x512x512))

theorem quot_at (B0 B1 B2 Wt : FVec Ideal S262144 .f32) (B : Fin 3 → EReal) (Y X : Fin 512) (h0 : B0 (ValueIdx.ix1 (flat Y X)) = B 0)
    (h1 : B1 (ValueIdx.ix1 (flat Y X)) = B 1) (h2 : B2 (ValueIdx.ix1 (flat Y X)) = B 2) (p : Fin 3) :
    quot B0 B1 B2 Wt (ix3 p Y X) = Ideal.div (B p) (Wt (ValueIdx.ix1 (flat Y X))) := by
  pointwise [quot]
  refine congrArg (Ideal.div · _) ?_
  match p with
  | ⟨0, _⟩ => exact h0
  | ⟨1, _⟩ => exact h1
  | ⟨2, _⟩ => exact h2

theorem upd0_at (a b : Fin 17) (y x : Fin 512) : (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 0, 0, 0] (V0 (Proc.devRef .tc main_arg0)) slices_S1x3x512x512_S1x1x512x512_0_0_0_0) shapeCasts_S1x1x512x512_S512x512)))) (ix4 a b y x)
    = if Inb a b y x then tw (max (dep V0 (ix4 0 0 y x)) (-dep V0 (ix4 0 0 y x))) (dsq a b : EReal) * pic V0 (ix4 0 0 y x) else 0 := by
  pointwise
  rw [v61_at]
  split
  · rfl
  · exact zero_mul _

theorem upd1_at (a b : Fin 17) (y x : Fin 512) : (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 1, 0, 0] (V0 (Proc.devRef .tc main_arg0)) slices_S1x3x512x512_S1x1x512x512_0_1_0_0) shapeCasts_S1x1x512x512_S512x512)))) (ix4 a b y x)
    = if Inb a b y x then tw (max (dep V0 (ix4 0 0 y x)) (-dep V0 (ix4 0 0 y x))) (dsq a b : EReal) * pic V0 (ix4 0 1 y x) else 0 := by
  pointwise
  rw [v61_at]
  split
  · rfl
  · exact zero_mul _

theorem upd2_at (a b : Fin 17) (y x : Fin 512) : (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 2, 0, 0] (V0 (Proc.devRef .tc main_arg0)) slices_S1x3x512x512_S1x1x512x512_0_2_0_0) shapeCasts_S1x1x512x512_S512x512)))) (ix4 a b y x)
    = if Inb a b y x then tw (max (dep V0 (ix4 0 0 y x)) (-dep V0 (ix4 0 0 y x))) (dsq a b : EReal) * pic V0 (ix4 0 2 y x) else 0 := by
  pointwise
  rw [v61_at]
  split
  · rfl
  · exact zero_mul _

/-- The reference's dilation at a pixel. -/
theorem dil_at (hd : Good (dep V0)) (Y X : Fin 512) (b : EReal) :
    num (Host.scatter dims IntOp.maxsi (broadcastInDim S262144 ![] bcast_S_S262144 (constantI S_ 32 0#32)) (words V0) (shapeCast S75759616 (dilU V0) shapeCasts_S17x17x512x512_S75759616) (ValueIdx.ix1 (flat Y X))) ≤ b
      ↔ 0 ≤ b ∧ ∀ k o : Fin 17, cAt (dep V0) Y X k o ≤ b := by
  have e : ((flat Y X : Fin 262144) : ℕ) = 512 * (Y : ℕ) + X := by
    show (Y : ℕ) * 512 + X = _
    omega
  have s := scatter_max_at V0 (dilU V0) (pick V0) (dilU_at V0 hd) Y X b
  rw [← e] at s
  have t := scatter_max V0 (broadcastInDim S262144 ![] bcast_S_S262144 (constantI S_ 32 0#32)) (dilU V0) (flat Y X) b
  have z0 : (broadcastInDim S262144 ![] bcast_S_S262144 (constantI S_ 32 0#32)) (ValueIdx.ix1 (flat Y X)) = 0#32 := rfl
  rw [z0] at t
  refine (t.trans s).trans (and_congr_right fun hb => forall_congr' fun k => forall_congr' fun o => ?_)
  by_cases h : Src Y X k o
  · rw [cAt, padD_src _ _ _ _ _ h]
    refine (forall_prop_of_true h).trans ?_
    obtain ⟨r, ⟨h0, h1⟩, hr⟩ := hd (ix4 0 0 ⟨Y + k - 8, h.1.2⟩ ⟨o + X - 8, h.2.2⟩)
    unfold pick cand kd
    rw [hr, dsq_rev]
    by_cases hs : Ideal.sqrt (dsq k o : EReal) ≤ (r : EReal)
    · rw [if_pos hs, if_pos hs, Ideal.liftRound_coe, num, fptosi_real r h0 h1]
    · rw [if_neg hs, if_neg hs]
      simp [num]
  · rw [cAt, padD_out _ _ _ _ _ h, cand_bot]
    exact ⟨fun _ => hb, fun _ h' => absurd h' h⟩

theorem largest_at (S : IVec S262144 32) (Y X : Fin 512) :
    fptosi (F := Ideal) (φ := .f32) 32 (maximumf (res_main_v0 V0) (sitofp .f32 (shapeCast _ S shapeCasts_S262144_S512x512))) (ix2 Y X) = Ideal.fptosi 32 (max (dep V0 (ix4 0 0 Y X)) (num (S (ValueIdx.ix1 (flat Y X))))) := by
  pointwise
  rw [v0_at]
  rfl

end Cert.Splat
end
-- ==== Proof.Equation.lean ====
/-
  The reference's run and its two results at one pixel, equal to what the kernel's are stated to be.
-/
module

public import proofs.«01_k».proof.Proof.RefValue

@[expose] public section

set_option maxRecDepth 16384

noncomputable section

namespace Cert.Splat

open Cert.ReferenceIdeal Cert.ReferenceIdeal.Gen Cert.ReferenceIdeal.Value Idealize.ShloMosaic Idealize.ShloMosaic.TcCoe Idealize.SL.Sem Cert.Bokeh Idealize.ShloMosaic.StableHlo

variable (V0 : Valuation τ sig (Elt Ideal))

/-- The reference's first result. -/
def out0 : FVec Ideal S3x512x512 .f32 :=
  quot (Host.scatterAdd (F := Ideal) (φ := .f32) dims zeros (words V0) (shapeCast S75759616 (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 0, 0, 0] (V0 (Proc.devRef .tc main_arg0)) slices_S1x3x512x512_S1x1x512x512_0_0_0_0) shapeCasts_S1x1x512x512_S512x512)))) shapeCasts_S17x17x512x512_S75759616))
    (Host.scatterAdd (F := Ideal) (φ := .f32) dims zeros (words V0) (shapeCast S75759616 (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 1, 0, 0] (V0 (Proc.devRef .tc main_arg0)) slices_S1x3x512x512_S1x1x512x512_0_1_0_0) shapeCasts_S1x1x512x512_S512x512)))) shapeCasts_S17x17x512x512_S75759616))
    (Host.scatterAdd (F := Ideal) (φ := .f32) dims zeros (words V0) (shapeCast S75759616 (mulf (res_main_v61 V0) (broadcastInDim S17x17x512x512 ![0, 1, 2, 3] bcast_S1x1x512x512_S17x17x512x512_0_1_2_3 (broadcastInDim S1x1x512x512 ![2, 3] bcast_S512x512_S1x1x512x512_2_3 (shapeCast _ (extractStridedSlice S1x1x512x512 ![0, 2, 0, 0] (V0 (Proc.devRef .tc main_arg0)) slices_S1x3x512x512_S1x1x512x512_0_2_0_0) shapeCasts_S1x1x512x512_S512x512)))) shapeCasts_S17x17x512x512_S75759616))
    (Host.scatterAdd (F := Ideal) (φ := .f32) dims zeros (words V0) (shapeCast S75759616 (res_main_v61 V0) shapeCasts_S17x17x512x512_S75759616))

/-- The reference's largest candidates, pixel by pixel. -/
def peaks : IVec S262144 32 :=
  Host.scatter dims IntOp.maxsi (broadcastInDim S262144 ![] bcast_S_S262144 (constantI S_ 32 0#32)) (words V0) (shapeCast S75759616 (dilU V0) shapeCasts_S17x17x512x512_S75759616)

/-- The reference's second result. -/
def out1 : IVec S512x512 32 :=
  fptosi (F := Ideal) (φ := .f32) 32 (maximumf (res_main_v0 V0) (sitofp .f32 (shapeCast _ (peaks V0) shapeCasts_S262144_S512x512)))

theorem out0_at (hd : Good (dep V0)) (p : Fin 3) (Y X : Fin 512) : out0 V0 (ix3 p Y X) = (kerB (dep V0) (pic V0) p Y X * Ideal.div 1 (kerW (dep V0) Y X) : EReal) := by
  unfold out0
  rw [quot_at _ _ _ _ (fun p => kerB (dep V0) (pic V0) p Y X) Y X (sumB_at V0 hd 0 _ (upd0_at V0) Y X) (sumB_at V0 hd 1 _ (upd1_at V0) Y X) (sumB_at V0 hd 2 _ (upd2_at V0) Y X) p,
    sumW_at V0 hd Y X]
  have h := kerW_ne V0 hd Y X
  unfold Ideal.div
  rw [if_neg h, if_neg h, one_mul]

theorem out1_at (hd : Good (dep V0)) (Y X : Fin 512) (D : EReal) (hD : ∀ b, D ≤ b ↔ 0 ≤ b ∧ ∀ k o : Fin 17, cAt (dep V0) Y X k o ≤ b) :
    out1 V0 (ix2 Y X) = Ideal.fptosi 32 (max (dep V0 (ix4 0 0 Y X)) D) := by
  have e : D = num (peaks V0 (ValueIdx.ix1 (flat Y X))) := eq_of_forall_ge_iff fun b => (hD b).trans (dil_at V0 hd Y X b).symm
  rw [e]
  exact largest_at V0 (peaks V0) Y X

/-- The reference's run, its results by name. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141) = out0 (launchContents m c)
      ∧ r.2.mem ((c.tc : Thread nD τ).loc main_v145) = out1 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.ReferenceIdeal.Value.run (F := Ideal) m ρ)
  obtain ⟨h0, h1, h2⟩ := h c
  exact ⟨by rw [h0]; unfold out0 quot words; rfl, by rw [h1]; unfold out1 peaks dilU words; rfl, h2⟩

end Cert.Splat
end
-- ==== Proof.Bounds.lean ====
/-
  The precondition, read: every defocus is a real number in its bounds.
-/
module

public import proofs.«01_k».proof.Proof.RefValue
public import Idealize.ShloMosaic.Lib.ReduceAll
public import Idealize.ShloMosaic.Lib.Pointwise

@[expose] public section

set_option maxRecDepth 16384

noncomputable section

namespace Cert.Bounds

open Idealize.ShloMosaic Idealize.SL.Sem Cert.Pre_nonnegative

instance facts : Cert.Pre_nonnegative.Facts := ⟨by decide, by decide, by decide⟩

instance : Subsingleton S_.Idx := ⟨fun a b => funext fun i => i.elim0⟩

/-- The precondition bounds every defocus. -/
theorem good (u : FVec Ideal S1x3x512x512 .f32) (d : FVec Ideal S1x1x512x512 .f32) (h : Cert.Pre_nonnegative.fn (F := Ideal) u d = fun _ => 1#1) : Cert.Splat.Good d := by
  intro i
  unfold Cert.Pre_nonnegative.fn at h
  have e := Host.reduce_andi_all _ _ _ _ (fun a => a.elim0) (congrFun h _) i
  obtain ⟨e0, e1⟩ := IntOp.andi_eq_one.1 e
  have b : ∀ p : Prop, [Decidable p] → BitVec.ofBool (decide p) = 1#1 → p := fun p _ h => by
    by_contra hp
    rw [decide_eq_false hp] at h
    exact absurd h (by decide)
  have l0 : Ideal.ofBits .f32 0#32 ≤ (d i : EReal) := b _ e0
  have l1 : (d i : EReal) ≤ Ideal.ofBits .f32 0x4EFFFFFF#32 := b _ e1
  rw [Cert.Splat.zero_val] at l0
  rw [Cert.Bokeh.limit_val] at l1
  generalize (d i : EReal) = x at l0 l1
  induction x using EReal.rec with
  | bot => simp at l0
  | top => simp at l1
  | coe r => exact ⟨r, ⟨EReal.coe_nonneg.1 l0, EReal.coe_le_coe_iff.1 l1⟩, rfl⟩

end Cert.Bounds
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Acc
public import proofs.«01_k».proof.Proof.Equation
public import proofs.«01_k».proof.Proof.Bounds
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2⟩, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "steep_neg" .f32 0xC138AA3B#32 ((-(8 * (Real.log 2)⁻¹) : ℝ) : EReal) rfl,
    IdealRules.named_const.statement Cert.KernelIdeal.κ "steep" .f32 0x4138AA3B#32 ((8 * (Real.log 2)⁻¹ : ℝ) : EReal) rfl⟩

theorem algebraic : Cert.algebraic_KernelIdeal_ReferenceIdeal_pre_nonnegative (hKernelIdeal := Cert.KernelIdeal.Gen.facts)
    (hReferenceIdeal := Cert.ReferenceIdeal.Gen.facts) (hPre_nonnegative := Cert.Bounds.facts) := by
  intro m g m' g' hpre hargs
  refine ⟨fun c => Cert.KernelIdeal.Value.G3 m c, fun c => Cert.KernelIdeal.Value.G4 m c, Cert.KernelIdeal.Value.run (F := Ideal) m g, ?_⟩
  refine (θ_run Cert.ReferenceIdeal.defs _ _).mono (fun r h c => ?_) (Cert.Splat.ref_run m' g')
  obtain ⟨h0, h1, h2⟩ := h c
  have hd := Cert.Bounds.good _ _ (hpre c)
  obtain ⟨a0, a1⟩ := hargs c
  have eu : Cert.Splat.pic (StableHlo.launchContents m' c) = Cert.Bokeh.img m c := a0
  have ed : Cert.Splat.dep (StableHlo.launchContents m' c) = Cert.Bokeh.dfs m c := a1
  have hd' : Cert.Splat.Good (Cert.Splat.dep (StableHlo.launchContents m' c)) := by rw [ed]; exact hd
  refine ⟨h0.trans (funext fun i => ?_), h1.trans (funext fun i => ?_), h2⟩
  · obtain ⟨p, Y, X, rfl⟩ : ∃ (p : Fin 3) (Y X : Fin 512), i = ix3 p Y X := ⟨i 0, i 1, i 2, eq_ix3 i⟩
    refine (Cert.Splat.out0_at _ hd' p Y X).trans ?_
    rw [ed, eu]
    exact (Cert.Bokeh.G3_at m c p Y X).symm
  · obtain ⟨Y, X, rfl⟩ : ∃ Y X : Fin 512, i = ix2 Y X := ⟨i 0, i 1, eq_ix2 i⟩
    obtain ⟨D, hD, e⟩ := Cert.Bokeh.G4_at m c Y X
    refine (Cert.Splat.out1_at _ hd' Y X D ?_).trans ?_
    · rw [ed]; exact hD
    · rw [ed]; exact e.symm

theorem claim : Cert.Claim := ⟨Cert.Kernel.Gen.facts, Cert.KernelIdeal.Gen.facts, Cert.ReferenceIdeal.Gen.facts, Cert.Bounds.facts,
  frame_kernel, frame_ideal, fun m ρ _ => frame_ideal m ρ trivial, frame_reference, fun m ρ _ => frame_reference m ρ trivial, preserves, algebraic⟩

end Cert.Proof

end
